-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_as_drawn [hPre_as_drawn : Cert.Pre_as_drawn.Facts] (m : (ℓ : Loc Cert.KernelIdeal.nD Cert.KernelIdeal.τ Cert.KernelIdeal.sig) → Buf (Elt Ideal) ℓ) : Prop :=
  ∀ c : Dev Cert.KernelIdeal.nD,
    (Cert.Pre_as_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_as_drawn [hPre_as_drawn : Cert.Pre_as_drawn.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_as_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_as_drawn [hKernelIdeal : Cert.KernelIdeal.Facts] [hPre_as_drawn : Cert.Pre_as_drawn.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_as_drawn m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_as_drawn [hReferenceIdeal : Cert.ReferenceIdeal.Facts] [hPre_as_drawn : Cert.Pre_as_drawn.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_as_drawn m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal_pre_as_drawn [hKernelIdeal : Cert.KernelIdeal.Facts] [hReferenceIdeal : Cert.ReferenceIdeal.Facts] [hPre_as_drawn : Cert.Pre_as_drawn.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_as_drawn m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def holds_KernelIdeal_near_reference_pre_as_drawn [hKernelIdeal : Cert.KernelIdeal.Facts] [hPre_as_drawn : Cert.Pre_as_drawn.Facts] [hPost_near_reference : Cert.Post_near_reference.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_as_drawn m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ (Cert.Post_near_reference.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (r.2.mem ((c.tc : Thread Cert.KernelIdeal.nD Cert.KernelIdeal.τ).loc Cert.KernelIdeal.main_v0))) = (fun _ => 1#1))

def Claim : Prop :=
  ∃ (hKernel : Cert.Kernel.Facts) (hKernelIdeal : Cert.KernelIdeal.Facts) (hReferenceIdeal : Cert.ReferenceIdeal.Facts) (hPre_as_drawn : Cert.Pre_as_drawn.Facts) (hPost_near_reference : Cert.Post_near_reference.Facts),
    quiescent_Kernel (hKernel := hKernel)
    ∧ quiescent_KernelIdeal (hKernelIdeal := hKernelIdeal)
    ∧ quiescent_KernelIdeal_pre_as_drawn (hKernelIdeal := hKernelIdeal) (hPre_as_drawn := hPre_as_drawn)
    ∧ quiescent_ReferenceIdeal (hReferenceIdeal := hReferenceIdeal)
    ∧ quiescent_ReferenceIdeal_pre_as_drawn (hReferenceIdeal := hReferenceIdeal) (hPre_as_drawn := hPre_as_drawn)
    ∧ preserves_Kernel_KernelIdeal
    ∧ algebraic_KernelIdeal_ReferenceIdeal_pre_as_drawn (hKernelIdeal := hKernelIdeal) (hReferenceIdeal := hReferenceIdeal) (hPre_as_drawn := hPre_as_drawn)
    ∧ holds_KernelIdeal_near_reference_pre_as_drawn (hKernelIdeal := hKernelIdeal) (hPre_as_drawn := hPre_as_drawn) (hPost_near_reference := hPost_near_reference)
-- ==== Post_near_reference.lean ====
abbrev S32768x512 : Shape := ⟨2, ![32768, 512]⟩
abbrev S32768 : Shape := ⟨1, ![32768]⟩
abbrev S16 : Shape := ⟨1, ![16]⟩
abbrev S512x512 : Shape := ⟨2, ![512, 512]⟩
abbrev S512 : Shape := ⟨1, ![512]⟩
abbrev S1x512 : Shape := ⟨2, ![1, 512]⟩
abbrev S1 : Shape := ⟨1, ![1]⟩
abbrev S16x512 : Shape := ⟨2, ![16, 512]⟩
abbrev S512x1 : Shape := ⟨2, ![512, 1]⟩
abbrev S32768x1 : Shape := ⟨2, ![32768, 1]⟩
abbrev S1x1 : Shape := ⟨2, ![1, 1]⟩
abbrev S1x16 : Shape := ⟨2, ![1, 16]⟩
abbrev S32768x16 : Shape := ⟨2, ![32768, 16]⟩
abbrev S_ : Shape := ⟨0, ![]⟩
abbrev S16x1 : Shape := ⟨2, ![16, 1]⟩

class Facts : Prop where
  transposes_S512x512_S512x512_1_0 : S512x512.Transposes [1, 0] S512x512
  bcast_S512_S1x512_1 : S512.BroadcastsInDim S1x512 (![1] : Fin 1 → Fin S1x512.rank)
  bcast_S1x512_S32768x512_0_1 : S1x512.BroadcastsInDim S32768x512 (![0, 1] : Fin 2 → Fin S32768x512.rank)
  transposes_S1x512_S512x1_1_0 : S1x512.Transposes [1, 0] S512x1
  bcast_S1_S1x1_1 : S1.BroadcastsInDim S1x1 (![1] : Fin 1 → Fin S1x1.rank)
  bcast_S1x1_S32768x1_0_1 : S1x1.BroadcastsInDim S32768x1 (![0, 1] : Fin 2 → Fin S32768x1.rank)
  shapeCasts_S32768x1_S32768 : S32768x1.ShapeCasts S32768
  bcast_S32768_S32768x1_0 : S32768.BroadcastsInDim S32768x1 (![0] : Fin 1 → Fin S32768x1.rank)
  bcast_S16_S1x16_1 : S16.BroadcastsInDim S1x16 (![1] : Fin 1 → Fin S1x16.rank)
  bcast_S32768x1_S32768x16_0_1 : S32768x1.BroadcastsInDim S32768x16 (![0, 1] : Fin 2 → Fin S32768x16.rank)
  bcast_S1x16_S32768x16_0_1 : S1x16.BroadcastsInDim S32768x16 (![0, 1] : Fin 2 → Fin S32768x16.rank)
  bcast_S_S32768x16 : S_.BroadcastsInDim S32768x16 (![] : Fin 0 → Fin S32768x16.rank)
  reducesTo_S32768x16_S16_d0 : S32768x16.ReducesTo [0] S16
  h_S_ : 0 < S_.numel
  bcast_S_S32768 : S_.BroadcastsInDim S32768 (![] : Fin 0 → Fin S32768.rank)
  bcast_S_S16 : S_.BroadcastsInDim S16 (![] : Fin 0 → Fin S16.rank)
  bcast_S32768x1_S32768x512_0_1 : S32768x1.BroadcastsInDim S32768x512 (![0, 1] : Fin 2 → Fin S32768x512.rank)
  bcast_S_S16x512 : S_.BroadcastsInDim S16x512 (![] : Fin 0 → Fin S16x512.rank)
  bcast_S16_S16x1_0 : S16.BroadcastsInDim S16x1 (![0] : Fin 1 → Fin S16x1.rank)
  bcast_S16x1_S16x512_0_1 : S16x1.BroadcastsInDim S16x512 (![0, 1] : Fin 2 → Fin S16x512.rank)
  reducesTo_S16x512_S_d0_1 : S16x512.ReducesTo [0, 1] S_
  dot_S32768x512_S512x512_S32768x512_1_0_0_1_n_n_wf : DotDims.WF S32768x512 S512x512 S32768x512 [1] [0] [0] [1] [] []
  dot_S32768x512_S512x1_S32768x1_1_0_0_1_n_n_wf : DotDims.WF S32768x512 S512x1 S32768x1 [1] [0] [0] [1] [] []
  gather_S16_S32768x1_S32768_n_0_n_n_0_1_1_wf : GatherDims.WF S16 S32768x1 S32768 [] [0] [] [0] [] 1 ![1]
  scatter_S16_S32768x1_S32768_n_0_0_1_wf : ScatterDims.WF S16 S32768x1 S32768 [] [0] [0] 1
  scatter_S16x512_S32768x1_S32768x512_1_0_0_1_wf : ScatterDims.WF S16x512 S32768x1 S32768x512 [1] [0] [0] 1

variable [Facts]

def dot_S32768x512_S512x512_S32768x512_1_0_0_1_n_n : DotDims S32768x512 S512x512 S32768x512 where
  lhsContracting := [1]
  rhsContracting := [0]
  lhsNonContracting := [0]
  rhsNonContracting := [1]
  lhsBatch := []
  rhsBatch := []
  wf := dot_S32768x512_S512x512_S32768x512_1_0_0_1_n_n_wf
def dot_S32768x512_S512x1_S32768x1_1_0_0_1_n_n : DotDims S32768x512 S512x1 S32768x1 where
  lhsContracting := [1]
  rhsContracting := [0]
  lhsNonContracting := [0]
  rhsNonContracting := [1]
  lhsBatch := []
  rhsBatch := []
  wf := dot_S32768x512_S512x1_S32768x1_1_0_0_1_n_n_wf
def gather_S16_S32768x1_S32768_n_0_n_n_0_1_1 : GatherDims S16 S32768x1 S32768 where
  offsetDims := []
  collapsedSliceDims := [0]
  operandBatchingDims := []
  startIndicesBatchingDims := []
  startIndexMap := [0]
  indexVectorDim := 1
  sliceSizes := ![1]
  wf := gather_S16_S32768x1_S32768_n_0_n_n_0_1_1_wf
def scatter_S16_S32768x1_S32768_n_0_0_1 : ScatterDims S16 S32768x1 S32768 where
  updateWindowDims := []
  insertedWindowDims := [0]
  scatterDimsToOperandDims := [0]
  indexVectorDim := 1
  wf := scatter_S16_S32768x1_S32768_n_0_0_1_wf
def scatter_S16x512_S32768x1_S32768x512_1_0_0_1 : ScatterDims S16x512 S32768x1 S32768x512 where
  updateWindowDims := [1]
  insertedWindowDims := [0]
  scatterDimsToOperandDims := [0]
  indexVectorDim := 1
  wf := scatter_S16x512_S32768x1_S32768x512_1_0_0_1_wf
def fn_where {F : FTy → Type} [FloatOps F] (arg0 : IVec S32768x16 1) (arg1 : FVec F S32768x1 .f32) (arg2 : FVec F S_ .f32) : FVec F S32768x16 .f32 :=
  let v0 : FVec F S_ .f32 := id arg2
  let v1 : FVec F S32768x16 .f32 := broadcastInDim S32768x16 ![0, 1] bcast_S32768x1_S32768x16_0_1 arg1
  let v2 : FVec F S32768x16 .f32 := broadcastInDim S32768x16 ![] bcast_S_S32768x16 v0
  let v3 : FVec F S32768x16 .f32 := select arg0 v1 v2
  v3

def fn_part3 {F : FTy → Type} [FloatOps F] (main_arg7 : FVec F S16x512 .f32) (main_v48 : FVec F S16x512 .f32) (main_v50 : FVec F S16 .f32) (main_v56 : FVec F S16x512 .f32) (main_v60 : FVec F S16x512 .f32) : IVec S_ 1 :=
  let main_v61 : FVec F S16x512 .f32 := mulf main_v48 main_v60
  let main_v62 : IVec S16x512 1 := cmpf .oeq main_v56 main_v61
  let main_v63 : FVec F S16x512 .f32 := subf main_arg7 main_v48
  let main_v64 : FVec F S16x512 .f32 := Host.absf main_v63
  let main_cst_9 : FVec F S_ .f32 := constant S_ .f32 0x3F800000#32
  let main_v65 : FVec F S16 .f32 := broadcastInDim S16 ![] bcast_S_S16 main_cst_9
  let main_v66 : FVec F S16 .f32 := addf main_v65 main_v50
  let main_cst_10 : FVec F S_ .f32 := constant S_ .f32 0x322BCC77#32
  let main_v67 : FVec F S16 .f32 := broadcastInDim S16 ![] bcast_S_S16 main_cst_10
  let main_v68 : FVec F S16 .f32 := mulf main_v67 main_v66
  let main_v69 : FVec F S16x1 .f32 := broadcastInDim S16x1 ![0] bcast_S16_S16x1_0 main_v68
  let main_v70 : FVec F S16x512 .f32 := Host.absf main_v48
  let main_v71 : FVec F S16x512 .f32 := broadcastInDim S16x512 ![0, 1] bcast_S16x1_S16x512_0_1 main_v69
  let main_v72 : FVec F S16x512 .f32 := mulf main_v71 main_v70
  let main_v73 : IVec S16x512 1 := cmpf .ole main_v64 main_v72
  let main_v74 : IVec S16x512 1 := andi main_v62 main_v73
  let main_c_11 : IVec S_ 1 := constantI S_ 1 1#1
  let main_v75 : IVec S_ 1 := (fun x v => Host.reduce IntOp.andi x v reducesTo_S16x512_S_d0_1 h_S_) main_v74 main_c_11
  main_v75

def fn_part2 {F : FTy → Type} [FloatOps F] (main_arg0 : FVec F S32768x512 .f32) (main_arg1 : IVec S32768 32) (main_arg7 : FVec F S16x512 .f32) (main_v20 : FVec F S16 .f32) (main_v29 : FVec F S32768 .f32) (main_v32 : FVec F S16 .f32) (main_v39 : FVec F S32768 .f32) (main_cst_5 : FVec F S_ .f32) : IVec S_ 1 :=
  let main_v40 : FVec F S32768 .f32 := broadcastInDim S32768 ![] bcast_S_S32768 main_cst_5
  let main_v41 : FVec F S32768 .f32 := addf main_v39 main_v40
  let main_v42 : FVec F S32768 .f32 := Host.divf main_v29 main_v41
  let main_v43 : FVec F S32768x1 .f32 := broadcastInDim S32768x1 ![0] bcast_S32768_S32768x1_0 main_v42
  let main_v44 : FVec F S32768x512 .f32 := broadcastInDim S32768x512 ![0, 1] bcast_S32768x1_S32768x512_0_1 main_v43
  let main_v45 : FVec F S32768x512 .f32 := mulf main_arg0 main_v44
  let main_cst_6 : FVec F S_ .f32 := constant S_ .f32 0x00000000#32
  let main_v46 : FVec F S16x512 .f32 := broadcastInDim S16x512 ![] bcast_S_S16x512 main_cst_6
  let main_v47 : IVec S32768x1 32 := broadcastInDim S32768x1 ![0] bcast_S32768_S32768x1_0 main_arg1
  let main_v48 : FVec F S16x512 .f32 := (fun x i u => Host.scatterAdd scatter_S16x512_S32768x1_S32768x512_1_0_0_1 x i u) main_v46 main_v47 main_v45
  let main_v49 : FVec F S16 .f32 := Host.negf main_v20
  let main_v50 : FVec F S16 .f32 := Host.exp main_v49
  let main_cst_7 : FVec F S_ .f32 := constant S_ .f32 0x322BCC77#32
  let main_v51 : FVec F S16 .f32 := broadcastInDim S16 ![] bcast_S_S16 main_cst_7
  let main_v52 : FVec F S16 .f32 := mulf main_v51 main_v50
  let main_v53 : FVec F S16 .f32 := addf main_v32 main_v52
  let main_v54 : FVec F S16x1 .f32 := broadcastInDim S16x1 ![0] bcast_S16_S16x1_0 main_v53
  let main_v55 : FVec F S16x512 .f32 := broadcastInDim S16x512 ![0, 1] bcast_S16x1_S16x512_0_1 main_v54
  let main_v56 : FVec F S16x512 .f32 := mulf main_arg7 main_v55
  let main_cst_8 : FVec F S_ .f32 := constant S_ .f32 0x322BCC77#32
  let main_v57 : FVec F S16 .f32 := broadcastInDim S16 ![] bcast_S_S16 main_cst_8
  let main_v58 : FVec F S16 .f32 := addf main_v32 main_v57
  let main_v59 : FVec F S16x1 .f32 := broadcastInDim S16x1 ![0] bcast_S16_S16x1_0 main_v58
  let main_v60 : FVec F S16x512 .f32 := broadcastInDim S16x512 ![0, 1] bcast_S16x1_S16x512_0_1 main_v59
  fn_part3 (F := F) main_arg7 main_v48 main_v50 main_v56 main_v60

def fn_part1 {F : FTy → Type} [FloatOps F] (main_arg0 : FVec F S32768x512 .f32) (main_arg1 : IVec S32768 32) (main_arg7 : FVec F S16x512 .f32) (main_v11 : FVec F S32768 .f32) (main_v20 : FVec F S16 .f32) (main_c : IVec S_ 32) : IVec S_ 1 :=
  let main_v21 : IVec S32768 32 := broadcastInDim S32768 ![] bcast_S_S32768 main_c
  let main_v22 : IVec S32768 1 := cmpi .slt main_arg1 main_v21
  let main_c_1 : IVec S_ 32 := constantI S_ 32 16#32
  let main_v23 : IVec S32768 32 := broadcastInDim S32768 ![] bcast_S_S32768 main_c_1
  let main_v24 : IVec S32768 32 := addi main_arg1 main_v23
  let main_v25 : IVec S32768 32 := select main_v22 main_v24 main_arg1
  let main_v26 : IVec S32768x1 32 := broadcastInDim S32768x1 ![0] bcast_S32768_S32768x1_0 main_v25
  let main_v27 : FVec F S32768 .f32 := (fun x i => Host.gather gather_S16_S32768x1_S32768_n_0_n_n_0_1_1 x i) main_v20 main_v26
  let main_v28 : FVec F S32768 .f32 := subf main_v11 main_v27
  let main_v29 : FVec F S32768 .f32 := Host.exp main_v28
  let main_cst_2 : FVec F S_ .f32 := constant S_ .f32 0x00000000#32
  let main_v30 : FVec F S16 .f32 := broadcastInDim S16 ![] bcast_S_S16 main_cst_2
  let main_v31 : IVec S32768x1 32 := broadcastInDim S32768x1 ![0] bcast_S32768_S32768x1_0 main_arg1
  let main_v32 : FVec F S16 .f32 := (fun x i u => Host.scatterAdd scatter_S16_S32768x1_S32768_n_0_0_1 x i u) main_v30 main_v31 main_v29
  let main_c_3 : IVec S_ 32 := constantI S_ 32 0#32
  let main_v33 : IVec S32768 32 := broadcastInDim S32768 ![] bcast_S_S32768 main_c_3
  let main_v34 : IVec S32768 1 := cmpi .slt main_arg1 main_v33
  let main_c_4 : IVec S_ 32 := constantI S_ 32 16#32
  let main_v35 : IVec S32768 32 := broadcastInDim S32768 ![] bcast_S_S32768 main_c_4
  let main_v36 : IVec S32768 32 := addi main_arg1 main_v35
  let main_v37 : IVec S32768 32 := select main_v34 main_v36 main_arg1
  let main_v38 : IVec S32768x1 32 := broadcastInDim S32768x1 ![0] bcast_S32768_S32768x1_0 main_v37
  let main_v39 : FVec F S32768 .f32 := (fun x i => Host.gather gather_S16_S32768x1_S32768_n_0_n_n_0_1_1 x i) main_v32 main_v38
  let main_cst_5 : FVec F S_ .f32 := constant S_ .f32 0x322BCC77#32
  fn_part2 (F := F) main_arg0 main_arg1 main_arg7 main_v20 main_v29 main_v32 main_v39 main_cst_5

def fn {F : FTy → Type} [FloatOps F] (main_arg0 : FVec F S32768x512 .f32) (main_arg1 : IVec S32768 32) (main_arg2 : IVec S16 32) (main_arg3 : FVec F S512x512 .f32) (main_arg4 : FVec F S512 .f32) (main_arg5 : FVec F S1x512 .f32) (main_arg6 : FVec F S1 .f32) (main_arg7 : FVec F S16x512 .f32) : IVec S_ 1 :=
  let main_v0 : FVec F S512x512 .f32 := (transpose S512x512 [1, 0] · transposes_S512x512_S512x512_1_0) main_arg3
  let main_v1 : FVec F S32768x512 .f32 := (fun l r => Host.dotGeneral dot_S32768x512_S512x512_S32768x512_1_0_0_1_n_n none l r) main_arg0 main_v0
  let main_v2 : FVec F S1x512 .f32 := broadcastInDim S1x512 ![1] bcast_S512_S1x512_1 main_arg4
  let main_v3 : FVec F S32768x512 .f32 := broadcastInDim S32768x512 ![0, 1] bcast_S1x512_S32768x512_0_1 main_v2
  let main_v4 : FVec F S32768x512 .f32 := addf main_v1 main_v3
  let main_v5 : FVec F S32768x512 .f32 := Host.tanh main_v4
  let main_v6 : FVec F S512x1 .f32 := (transpose S512x1 [1, 0] · transposes_S1x512_S512x1_1_0) main_arg5
  let main_v7 : FVec F S32768x1 .f32 := (fun l r => Host.dotGeneral dot_S32768x512_S512x1_S32768x1_1_0_0_1_n_n none l r) main_v5 main_v6
  let main_v8 : FVec F S1x1 .f32 := broadcastInDim S1x1 ![1] bcast_S1_S1x1_1 main_arg6
  let main_v9 : FVec F S32768x1 .f32 := broadcastInDim S32768x1 ![0, 1] bcast_S1x1_S32768x1_0_1 main_v8
  let main_v10 : FVec F S32768x1 .f32 := addf main_v7 main_v9
  let main_v11 : FVec F S32768 .f32 := shapeCast S32768 main_v10 shapeCasts_S32768x1_S32768
  let main_v12 : IVec S32768x1 32 := broadcastInDim S32768x1 ![0] bcast_S32768_S32768x1_0 main_arg1
  let main_v13 : IVec S16 32 := iotaInDim S16 32 0
  let main_v14 : IVec S1x16 32 := broadcastInDim S1x16 ![1] bcast_S16_S1x16_1 main_v13
  let main_v15 : IVec S32768x16 32 := broadcastInDim S32768x16 ![0, 1] bcast_S32768x1_S32768x16_0_1 main_v12
  let main_v16 : IVec S32768x16 32 := broadcastInDim S32768x16 ![0, 1] bcast_S1x16_S32768x16_0_1 main_v14
  let main_v17 : IVec S32768x16 1 := cmpi .eq main_v15 main_v16
  let main_v18 : FVec F S32768x1 .f32 := broadcastInDim S32768x1 ![0] bcast_S32768_S32768x1_0 main_v11
  let main_cst : FVec F S_ .f32 := constant S_ .f32 0xFF800000#32
  let main_v19 : FVec F S32768x16 .f32 := fn_where (F := F) main_v17 main_v18 main_cst
  let main_cst_0 : FVec F S_ .f32 := constant S_ .f32 0xFF800000#32
  let main_v20 : FVec F S16 .f32 := (fun x v => Host.reduce FloatOps.maximumf x v reducesTo_S32768x16_S16_d0 h_S_) main_v19 main_cst_0
  let main_c : IVec S_ 32 := constantI S_ 32 0#32
  fn_part1 (F := F) main_arg0 main_arg1 main_arg7 main_v11 main_v20 main_c
-- ==== Pre_as_drawn.lean ====
abbrev S32768x512 : Shape := ⟨2, ![32768, 512]⟩
abbrev S32768 : Shape := ⟨1, ![32768]⟩
abbrev S16 : Shape := ⟨1, ![16]⟩
abbrev S512x512 : Shape := ⟨2, ![512, 512]⟩
abbrev S512 : Shape := ⟨1, ![512]⟩
abbrev S1x512 : Shape := ⟨2, ![1, 512]⟩
abbrev S1 : Shape := ⟨1, ![1]⟩
abbrev S_ : Shape := ⟨0, ![]⟩

class Facts : Prop where
  bcast_S_S512 : S_.BroadcastsInDim S512 (![] : Fin 0 → Fin S512.rank)
  reducesTo_S512_S_d0 : S512.ReducesTo [0] S_
  h_S_ : 0 < S_.numel
  bcast_S_S1 : S_.BroadcastsInDim S1 (![] : Fin 0 → Fin S1.rank)
  reducesTo_S1_S_d0 : S1.ReducesTo [0] S_
  bcast_S_S1x512 : S_.BroadcastsInDim S1x512 (![] : Fin 0 → Fin S1x512.rank)
  reducesTo_S1x512_S_d0_1 : S1x512.ReducesTo [0, 1] S_

variable [Facts]

def fn {F : FTy → Type} [FloatOps F] (main_arg0 : FVec F S32768x512 .f32) (main_arg1 : IVec S32768 32) (main_arg2 : IVec S16 32) (main_arg3 : FVec F S512x512 .f32) (main_arg4 : FVec F S512 .f32) (main_arg5 : FVec F S1x512 .f32) (main_arg6 : FVec F S1 .f32) : IVec S_ 1 :=
  let main_cst : FVec F S_ .f32 := constant S_ .f32 0x00000000#32
  let main_v0 : FVec F S512 .f32 := broadcastInDim S512 ![] bcast_S_S512 main_cst
  let main_v1 : IVec S512 1 := cmpf .oeq main_arg4 main_v0
  let main_c : IVec S_ 1 := constantI S_ 1 1#1
  let main_v2 : IVec S_ 1 := (fun x v => Host.reduce IntOp.andi x v reducesTo_S512_S_d0 h_S_) main_v1 main_c
  let main_cst_0 : FVec F S_ .f32 := constant S_ .f32 0x00000000#32
  let main_v3 : FVec F S1 .f32 := broadcastInDim S1 ![] bcast_S_S1 main_cst_0
  let main_v4 : IVec S1 1 := cmpf .oeq main_arg6 main_v3
  let main_c_1 : IVec S_ 1 := constantI S_ 1 1#1
  let main_v5 : IVec S_ 1 := (fun x v => Host.reduce IntOp.andi x v reducesTo_S1_S_d0 h_S_) main_v4 main_c_1
  let main_v6 : IVec S_ 1 := andi main_v2 main_v5
  let main_v7 : FVec F S1x512 .f32 := Host.absf main_arg5
  let main_cst_2 : FVec F S_ .f32 := constant S_ .f32 0x7F800000#32
  let main_v8 : FVec F S1x512 .f32 := broadcastInDim S1x512 ![] bcast_S_S1x512 main_cst_2
  let main_v9 : IVec S1x512 1 := cmpf .olt main_v7 main_v8
  let main_c_3 : IVec S_ 1 := constantI S_ 1 1#1
  let main_v10 : IVec S_ 1 := (fun x v => Host.reduce IntOp.andi x v reducesTo_S1x512_S_d0_1 h_S_) main_v9 main_c_3
  let main_v11 : IVec S_ 1 := andi main_v6 main_v10
  main_v11
-- ==== Kernel.lean ====
abbrev S32768x512 : Shape := ⟨2, ![32768, 512]⟩
abbrev S32768 : Shape := ⟨1, ![32768]⟩
abbrev S16 : Shape := ⟨1, ![16]⟩
abbrev S512x512 : Shape := ⟨2, ![512, 512]⟩
abbrev S512 : Shape := ⟨1, ![512]⟩
abbrev S1x512 : Shape := ⟨2, ![1, 512]⟩
abbrev S1 : Shape := ⟨1, ![1]⟩
abbrev S8x1x4096 : Shape := ⟨3, ![8, 1, 4096]⟩
abbrev S16x512 : Shape := ⟨2, ![16, 512]⟩
abbrev S4096x512 : Shape := ⟨2, ![4096, 512]⟩
abbrev S1x1x4096 : Shape := ⟨3, ![1, 1, 4096]⟩
abbrev S1x16 : Shape := ⟨2, ![1, 16]⟩
abbrev S4096 : Shape := ⟨1, ![4096]⟩
abbrev S4096x1 : Shape := ⟨2, ![4096, 1]⟩
abbrev S4096x16 : Shape := ⟨2, ![4096, 16]⟩
abbrev S16x1 : Shape := ⟨2, ![16, 1]⟩

abbrev nBuf : Space → Nat
  | .hbm => 9
  | .vmem => 9
  | .smem => 0
  | _ => 0

abbrev bufTy : (tb : Table) → Fin (tcTables nBuf tb) → BufTy
  | .hbm, ⟨0, _⟩ => ⟨S32768x512, .f32⟩
  | .hbm, ⟨1, _⟩ => ⟨S32768, .i32⟩
  | .hbm, ⟨2, _⟩ => ⟨S16, .i32⟩
  | .hbm, ⟨3, _⟩ => ⟨S512x512, .f32⟩
  | .hbm, ⟨4, _⟩ => ⟨S512, .f32⟩
  | .hbm, ⟨5, _⟩ => ⟨S1x512, .f32⟩
  | .hbm, ⟨6, _⟩ => ⟨S1, .f32⟩
  | .hbm, ⟨7, _⟩ => ⟨S8x1x4096, .i32⟩
  | .hbm, ⟨8, _⟩ => ⟨S16x512, .f32⟩
  | .local _ .vmem, ⟨0, _⟩ => ⟨S4096x512, .f32⟩
  | .local _ .vmem, ⟨1, _⟩ => ⟨S4096x512, .f32⟩
  | .local _ .vmem, ⟨2, _⟩ => ⟨S1x1x4096, .i32⟩
  | .local _ .vmem, ⟨3, _⟩ => ⟨S1x1x4096, .i32⟩
  | .local _ .vmem, ⟨4, _⟩ => ⟨S512x512, .f32⟩
  | .local _ .vmem, ⟨5, _⟩ => ⟨S1x512, .f32⟩
  | .local _ .vmem, ⟨6, _⟩ => ⟨S16x512, .f32⟩
  | .local _ .vmem, ⟨7, _⟩ => ⟨S1x16, .f32⟩
  | .local _ .vmem, ⟨8, _⟩ => ⟨S16x512, .f32⟩
  | _, _ => ⟨S32768x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_v0 : Ref sig .tc := ⟨.hbm, 7, rfl⟩
abbrev main_v0 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_scratch0 : Ref sig .tc := ⟨.vmem, 7, rfl⟩
abbrev cc0_scratch1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v37 : BitVec 1 := Scalar.cmpi .eq arg0 c7_i32
  let v38 : BitVec 32 := Scalar.extui v37
  let c0_i32_21 : BitVec 32 := 0#32
  let v39 : BitVec 1 := Scalar.cmpi .ne v38 c0_i32_21
  v39

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4096x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x4096 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S16x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== ReferenceIdeal.lean ====
abbrev S32768x512 : Shape := ⟨2, ![32768, 512]⟩
abbrev S32768 : Shape := ⟨1, ![32768]⟩
abbrev S16 : Shape := ⟨1, ![16]⟩
abbrev S512x512 : Shape := ⟨2, ![512, 512]⟩
abbrev S512 : Shape := ⟨1, ![512]⟩
abbrev S1x512 : Shape := ⟨2, ![1, 512]⟩
abbrev S1 : Shape := ⟨1, ![1]⟩
abbrev S512x1 : Shape := ⟨2, ![512, 1]⟩
abbrev S32768x1 : Shape := ⟨2, ![32768, 1]⟩
abbrev S1x1 : Shape := ⟨2, ![1, 1]⟩
abbrev S1x16 : Shape := ⟨2, ![1, 16]⟩
abbrev S32768x16 : Shape := ⟨2, ![32768, 16]⟩
abbrev S_ : Shape := ⟨0, ![]⟩
abbrev S16x512 : Shape := ⟨2, ![16, 512]⟩

abbrev nBuf : Space → Nat
  | .hbm => 80
  | .vmem => 0
  | .smem => 0
  | _ => 0

abbrev bufTy : (tb : Table) → Fin (tcTables nBuf tb) → BufTy
  | .hbm, ⟨0, _⟩ => ⟨S32768x512, .f32⟩
  | .hbm, ⟨1, _⟩ => ⟨S32768, .i32⟩
  | .hbm, ⟨2, _⟩ => ⟨S16, .i32⟩
  | .hbm, ⟨3, _⟩ => ⟨S512x512, .f32⟩
  | .hbm, ⟨4, _⟩ => ⟨S512, .f32⟩
  | .hbm, ⟨5, _⟩ => ⟨S1x512, .f32⟩
  | .hbm, ⟨6, _⟩ => ⟨S1, .f32⟩
  | .hbm, ⟨7, _⟩ => ⟨S512x512, .f32⟩
  | .hbm, ⟨8, _⟩ => ⟨S32768x512, .f32⟩
  | .hbm, ⟨9, _⟩ => ⟨S1x512, .f32⟩
  | .hbm, ⟨10, _⟩ => ⟨S32768x512, .f32⟩
  | .hbm, ⟨11, _⟩ => ⟨S32768x512, .f32⟩
  | .hbm, ⟨12, _⟩ => ⟨S32768x512, .f32⟩
  | .hbm, ⟨13, _⟩ => ⟨S512x1, .f32⟩
  | .hbm, ⟨14, _⟩ => ⟨S32768x1, .f32⟩
  | .hbm, ⟨15, _⟩ => ⟨S1x1, .f32⟩
  | .hbm, ⟨16, _⟩ => ⟨S32768x1, .f32⟩
  | .hbm, ⟨17, _⟩ => ⟨S32768x1, .f32⟩
  | .hbm, ⟨18, _⟩ => ⟨S32768, .f32⟩
  | .hbm, ⟨19, _⟩ => ⟨S32768x1, .i32⟩
  | .hbm, ⟨20, _⟩ => ⟨S16, .i32⟩
  | .hbm, ⟨21, _⟩ => ⟨S1x16, .i32⟩
  | .hbm, ⟨22, _⟩ => ⟨S32768x16, .i32⟩
  | .hbm, ⟨23, _⟩ => ⟨S32768x16, .i32⟩
  | .hbm, ⟨24, _⟩ => ⟨S32768x16, .i1⟩
  | .hbm, ⟨25, _⟩ => ⟨S32768x1, .f32⟩
  | .hbm, ⟨26, _⟩ => ⟨S_, .f32⟩
  | .hbm, ⟨27, _⟩ => ⟨S_, .f32⟩
  | .hbm, ⟨28, _⟩ => ⟨S32768x16, .f32⟩
  | .hbm, ⟨29, _⟩ => ⟨S32768x16, .f32⟩
  | .hbm, ⟨30, _⟩ => ⟨S32768x16, .f32⟩
  | .hbm, ⟨31, _⟩ => ⟨S_, .f32⟩
  | .hbm, ⟨32, _⟩ => ⟨S16, .f32⟩
  | .hbm, ⟨33, _⟩ => ⟨S_, .i32⟩
  | .hbm, ⟨34, _⟩ => ⟨S32768, .i32⟩
  | .hbm, ⟨35, _⟩ => ⟨S32768, .i1⟩
  | .hbm, ⟨36, _⟩ => ⟨S_, .i32⟩
  | .hbm, ⟨37, _⟩ => ⟨S32768, .i32⟩
  | .hbm, ⟨38, _⟩ => ⟨S32768, .i32⟩
  | .hbm, ⟨39, _⟩ => ⟨S32768, .i32⟩
  | .hbm, ⟨40, _⟩ => ⟨S32768x1, .i32⟩
  | .hbm, ⟨41, _⟩ => ⟨S32768, .f32⟩
  | .hbm, ⟨42, _⟩ => ⟨S32768, .f32⟩
  | .hbm, ⟨43, _⟩ => ⟨S32768, .f32⟩
  | .hbm, ⟨44, _⟩ => ⟨S_, .f32⟩
  | .hbm, ⟨45, _⟩ => ⟨S16, .f32⟩
  | .hbm, ⟨46, _⟩ => ⟨S32768x1, .i32⟩
  | .hbm, ⟨47, _⟩ => ⟨S16, .f32⟩
  | .hbm, ⟨48, _⟩ => ⟨S16, .f32⟩
  | .hbm, ⟨49, _⟩ => ⟨S16, .f32⟩
  | .hbm, ⟨50, _⟩ => ⟨S_, .f32⟩
  | .hbm, ⟨51, _⟩ => ⟨S16, .f32⟩
  | .hbm, ⟨52, _⟩ => ⟨S16, .f32⟩
  | .hbm, ⟨53, _⟩ => ⟨S_, .i32⟩
  | .hbm, ⟨54, _⟩ => ⟨S32768, .i32⟩
  | .hbm, ⟨55, _⟩ => ⟨S32768, .i1⟩
  | .hbm, ⟨56, _⟩ => ⟨S_, .i32⟩
  | .hbm, ⟨57, _⟩ => ⟨S32768, .i32⟩
  | .hbm, ⟨58, _⟩ => ⟨S32768, .i32⟩
  | .hbm, ⟨59, _⟩ => ⟨S32768, .i32⟩
  | .hbm, ⟨60, _⟩ => ⟨S32768x1, .i32⟩
  | .hbm, ⟨61, _⟩ => ⟨S32768, .f32⟩
  | .hbm, ⟨62, _⟩ => ⟨S_, .i32⟩
  | .hbm, ⟨63, _⟩ => ⟨S32768, .i32⟩
  | .hbm, ⟨64, _⟩ => ⟨S32768, .i1⟩
  | .hbm, ⟨65, _⟩ => ⟨S_, .i32⟩
  | .hbm, ⟨66, _⟩ => ⟨S32768, .i32⟩
  | .hbm, ⟨67, _⟩ => ⟨S32768, .i32⟩
  | .hbm, ⟨68, _⟩ => ⟨S32768, .i32⟩
  | .hbm, ⟨69, _⟩ => ⟨S32768x1, .i32⟩
  | .hbm, ⟨70, _⟩ => ⟨S32768, .f32⟩
  | .hbm, ⟨71, _⟩ => ⟨S32768, .f32⟩
  | .hbm, ⟨72, _⟩ => ⟨S32768, .f32⟩
  | .hbm, ⟨73, _⟩ => ⟨S32768x1, .f32⟩
  | .hbm, ⟨74, _⟩ => ⟨S32768x512, .f32⟩
  | .hbm, ⟨75, _⟩ => ⟨S32768x512, .f32⟩
  | .hbm, ⟨76, _⟩ => ⟨S_, .f32⟩
  | .hbm, ⟨77, _⟩ => ⟨S16x512, .f32⟩
  | .hbm, ⟨78, _⟩ => ⟨S32768x1, .i32⟩
  | .hbm, ⟨79, _⟩ => ⟨S16x512, .f32⟩
  | _, _ => ⟨S32768x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst : Ref sig .tc := ⟨.hbm, 26, rfl⟩
abbrev main_call0_v0 : Ref sig .tc := ⟨.hbm, 27, rfl⟩
abbrev main_call0_v1 : Ref sig .tc := ⟨.hbm, 28, rfl⟩
abbrev main_call0_v2 : Ref sig .tc := ⟨.hbm, 29, rfl⟩
abbrev main_v19 : Ref sig .tc := ⟨.hbm, 30, rfl⟩
abbrev main_cst_0 : Ref sig .tc := ⟨.hbm, 31, rfl⟩
abbrev main_v20 : Ref sig .tc := ⟨.hbm, 32, rfl⟩
abbrev main_c : Ref sig .tc := ⟨.hbm, 33, rfl⟩
abbrev main_v21 : Ref sig .tc := ⟨.hbm, 34, rfl⟩
abbrev main_v22 : Ref sig .tc := ⟨.hbm, 35, rfl⟩
abbrev main_c_1 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_2 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_3 : Ref sig .tc := ⟨.hbm, 50, rfl⟩
abbrev main_v35 : Ref sig .tc := ⟨.hbm, 51, rfl⟩
abbrev main_v36 : Ref sig .tc := ⟨.hbm, 52, rfl⟩
abbrev main_c_4 : Ref sig .tc := ⟨.hbm, 53, rfl⟩
abbrev main_v37 : Ref sig .tc := ⟨.hbm, 54, rfl⟩
abbrev main_v38 : Ref sig .tc := ⟨.hbm, 55, rfl⟩
abbrev main_c_5 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_c_6 : Ref sig .tc := ⟨.hbm, 62, rfl⟩
abbrev main_v44 : Ref sig .tc := ⟨.hbm, 63, rfl⟩
abbrev main_v45 : Ref sig .tc := ⟨.hbm, 64, rfl⟩
abbrev main_c_7 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_cst_8 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩

abbrev nD : Nat := 1
abbrev τ : Topo := Topo.v7x

variable {F : FTy → Type} [FloatOps F]
-- ==== Proof.KernelBody.lean ====
/- What one grid point leaves in the two scratch arrays and in the output block, as plain functions of the
   blocks it read and of what the point before it left. -/
module

public import proofs.«01_k».proof.Proof.Gen.KernelIdeal.Value

@[expose] public section

noncomputable section

namespace Cert.KernelIdeal.Segment

open Idealize.ShloMosaic Idealize.ShloMosaic.TcCoe Idealize.ShloMosaic.Tactic
open Cert.KernelIdeal Cert.KernelIdeal.Gen

variable {F : FTy → Type} [FloatOps F]

/-- The origin of a rank-two block, as the constant function. -/
theorem origin2 : (![0, 0] : Fin 2 → Nat) = fun _ => 0 := by
  funext a; match a with | ⟨0, _⟩ => rfl | ⟨1, _⟩ => rfl

/-- The origin of a rank-three block, as the constant function. -/
theorem origin3 : (![0, 0, 0] : Fin 3 → Nat) = fun _ => 0 := by
  funext a; match a with | ⟨0, _⟩ => rfl | ⟨1, _⟩ => rfl | ⟨2, _⟩ => rfl

/-- The running weighted sums after one more tile. -/
abbrev accStep (x : Vec F S4096x512 .f32) (g : Vec F S1x1x4096 .i32) (w1 : Vec F S512x512 .f32) (w2 : Vec F S1x512 .f32)
    (acc : Vec F S16x512 .f32) : Vec F S16x512 .f32 := k0_pay1 (k0_pay7 x w1 w2 g acc)

section Cases

variable (c : Dev nD) (i : grid0.Coords)
  (arg1 : Memref sig .tc .vmem S4096x512 .f32) (harg1 : arg1.IsWhole)
  (arg2 : Memref sig .tc .vmem S1x1x4096 .i32) (harg2 : arg2.IsWhole)
  (arg3 : Memref sig .tc .vmem S512x512 .f32) (harg3 : arg3.IsWhole)
  (arg4 : Memref sig .tc .vmem S1x512 .f32) (harg4 : arg4.IsWhole)
  (arg5 : Memref sig .tc .vmem S16x512 .f32) (harg5 : arg5.IsWhole)
  (arg6 : Memref sig .tc .vmem S1x16 .f32) (harg6 : arg6.IsWhole)
  (arg7 : Memref sig .tc .vmem S16x512 .f32) (harg7 : arg7.IsWhole)
  (x0 : Vec F S4096x512 .f32) (x1 : Vec F S1x1x4096 .i32) (x2 : Vec F S512x512 .f32) (x3 : Vec F S1x512 .f32)
  (xs0 : Vec F S1x16 .f32) (xs1 : Vec F S16x512 .f32)

/-- The first point leaves in the first scratch the sums of its own tile, started from zero. -/
theorem sums_first (h0 : cond0_0 i) (h1 : ¬cond0_1 i) :
    sout0_A_0 c i arg1 harg1 arg2 harg2 arg3 harg3 arg4 harg4 arg5 harg5 arg6 harg6 arg7 harg7 h0 h1 x0 x1 x2 x3
      = k0_pay6 x0 x2 x3 x1 k0_pay3 := by
  unfold sout0_A_0
  rw [View.read_writes_eq_canon _ _ _ (scover0_A_0 c i arg1 harg1 arg2 harg2 arg3 harg3 arg4 harg4 arg5 harg5 arg6 harg6 arg7 harg7 h0 h1 x0 x1 x2 x3)]
  unfold kernelRun0_A
  dsimp only
  sl_unfold_words
  rw [View.canon_cons_unit_zero (S := S1x16) origin2, View.readCov_unit_zero (S := S1x16) _ origin2]
  simp only [View.readAt_eq_ld, harg1.read_unread, harg2.read_unread, harg3.read_unread, harg4.read_unread,
    View.ld_unit_zero (S := S4096x512) origin2, View.ld_unit_zero (S := S512x512) origin2,
    View.ld_unit_zero (S := S1x512) origin2, View.ld_unit_zero (S := S1x1x4096) origin3]

/-- The first point leaves in the second scratch the weighted sums of its own tile, started from zero. -/
theorem acc_first (h0 : cond0_0 i) (h1 : ¬cond0_1 i) :
    sout0_A_1 c i arg1 harg1 arg2 harg2 arg3 harg3 arg4 harg4 arg5 harg5 arg6 harg6 arg7 harg7 h0 h1 x0 x1 x2 x3
      = accStep x0 x1 x2 x3 k0_pay4 := by
  unfold sout0_A_1
  rw [View.read_writes_eq_canon _ _ _ (scover0_A_1 c i arg1 harg1 arg2 harg2 arg3 harg3 arg4 harg4 arg5 harg5 arg6 harg6 arg7 harg7 h0 h1 x0 x1 x2 x3)]
  unfold kernelRun0_A
  dsimp only
  sl_unfold_words
  rw [View.canon_cons_unit_zero (S := S16x512) origin2, View.readCov_unit_zero (S := S16x512) _ origin2]
  simp only [View.readAt_eq_ld, harg1.read_unread, harg2.read_unread, harg3.read_unread, harg4.read_unread,
    View.ld_unit_zero (S := S4096x512) origin2, View.ld_unit_zero (S := S512x512) origin2,
    View.ld_unit_zero (S := S1x512) origin2, View.ld_unit_zero (S := S1x1x4096) origin3]

/-- A middle point adds its tile's sums to the first scratch. -/
theorem sums_middle (h0 : ¬cond0_0 i) (h1 : ¬cond0_1 i) :
    sout0_B_0 c i arg1 harg1 arg2 harg2 arg3 harg3 arg4 harg4 arg5 harg5 arg6 harg6 arg7 harg7 h0 h1 x0 x1 x2 x3 xs0 xs1
      = k0_pay6 x0 x2 x3 x1 xs0 := by
  unfold sout0_B_0
  rw [View.read_writes_eq_canon _ _ _ (scover0_B_0 c i arg1 harg1 arg2 harg2 arg3 harg3 arg4 harg4 arg5 harg5 arg6 harg6 arg7 harg7 h0 h1 x0 x1 x2 x3 xs0 xs1)]
  unfold kernelRun0_B
  dsimp only
  sl_unfold_words
  rw [View.canon_unit_zero (S := S1x16) origin2]
  simp only [View.readAt_eq_ld, harg1.read_unread, harg2.read_unread, harg3.read_unread, harg4.read_unread, harg6.read_unread,
    View.ld_unit_zero (S := S4096x512) origin2, View.ld_unit_zero (S := S512x512) origin2, View.ld_unit_zero (S := S1x16) origin2,
    View.ld_unit_zero (S := S1x512) origin2, View.ld_unit_zero (S := S1x1x4096) origin3]

/-- A middle point adds its tile's weighted sums to the second scratch. -/
theorem acc_middle (h0 : ¬cond0_0 i) (h1 : ¬cond0_1 i) :
    sout0_B_1 c i arg1 harg1 arg2 harg2 arg3 harg3 arg4 harg4 arg5 harg5 arg6 harg6 arg7 harg7 h0 h1 x0 x1 x2 x3 xs0 xs1
      = accStep x0 x1 x2 x3 xs1 := by
  unfold sout0_B_1
  rw [View.read_writes_eq_canon _ _ _ (scover0_B_1 c i arg1 harg1 arg2 harg2 arg3 harg3 arg4 harg4 arg5 harg5 arg6 harg6 arg7 harg7 h0 h1 x0 x1 x2 x3 xs0 xs1)]
  unfold kernelRun0_B
  dsimp only
  sl_unfold_words
  rw [View.canon_unit_zero (S := S16x512) origin2]
  simp only [View.readAt_eq_ld, harg1.read_unread, harg2.read_unread, harg3.read_unread, harg4.read_unread, harg7.read_unread,
    View.ld_unit_zero (S := S4096x512) origin2, View.ld_unit_zero (S := S512x512) origin2, View.ld_unit_zero (S := S16x512) origin2,
    View.ld_unit_zero (S := S1x512) origin2, View.ld_unit_zero (S := S1x1x4096) origin3]

/-- The last point stores the quotient of the two finished sums into the output block. -/
theorem out_last (h0 : ¬cond0_0 i) (h1 : cond0_1 i) :
    out0_C_4 c i arg1 harg1 arg2 harg2 arg3 harg3 arg4 harg4 arg5 harg5 arg6 harg6 arg7 harg7 h0 h1 x0 x1 x2 x3 xs0 xs1
      = k0_pay2 (accStep x0 x1 x2 x3 xs1) (k0_pay6 x0 x2 x3 x1 xs0) := by
  unfold out0_C_4
  rw [View.read_writes_eq_canon _ _ _ (cover0_C_4 c i arg1 harg1 arg2 harg2 arg3 harg3 arg4 harg4 arg5 harg5 arg6 harg6 arg7 harg7 h0 h1 x0 x1 x2 x3 xs0 xs1)]
  unfold kernelRun0_C
  dsimp only
  sl_unfold_words
  rw [View.canon_unit_zero (S := S16x512) origin2, View.readCov_unit_zero (S := S16x512) _ origin2, View.readCov_unit_zero (S := S1x16) _ origin2]
  simp only [View.readAt_eq_ld, harg1.read_unread, harg2.read_unread, harg3.read_unread, harg4.read_unread, harg6.read_unread, harg7.read_unread,
    View.ld_unit_zero (S := S4096x512) origin2, View.ld_unit_zero (S := S512x512) origin2, View.ld_unit_zero (S := S16x512) origin2,
    View.ld_unit_zero (S := S1x16) origin2, View.ld_unit_zero (S := S1x512) origin2, View.ld_unit_zero (S := S1x1x4096) origin3]

end Cases

end Cert.KernelIdeal.Segment

end
-- ==== Proof.Score.lean ====
/- The quantities that both programs compute, over the extended reals and over whole arrays: a row's score, and the
   weight with which a row enters the sums of a segment. -/
module

public import Idealize.ShloMosaic.Lib.Pointwise
public import Idealize.ShloMosaic.PureOps.Ideal.Laws

@[expose] public section

noncomputable section

namespace Cert.Segment

open Idealize.ShloMosaic

/-- A choice by the equality of two words is the choice by the equation. -/
theorem select_eq {α : Type} {w : ℕ} (u v : BitVec w) (p q : α) :
    Scalar.select (IntOp.cmpi .eq u v) p q = if u = v then p else q := by
  by_cases h : u = v
  · subst h; simp [Scalar.select, IntOp.cmpi]
  · have e : (u == v) = false := by simpa using h
    simp [Scalar.select, IntOp.cmpi, e, h]

/-- The score of row `t`: the second layer's row applied to the hyperbolic tangents of the first layer's outputs. -/
def score (x : Vec Ideal ⟨2, ![32768, 512]⟩ .f32) (w1 : Vec Ideal ⟨2, ![512, 512]⟩ .f32) (w2 : Vec Ideal ⟨2, ![1, 512]⟩ .f32)
    (t : Fin 32768) : EReal :=
  ∑ k : Fin 512, Ideal.tanh (∑ j : Fin 512, x (ix2 t j) * w1 (ix2 k j)) * w2 (ix2 0 k)

/-- The weight of row `t` in segment `b`: the exponential of the row's score where the row is in the segment, and zero
    elsewhere. -/
def weight (a : Fin 32768 → EReal) (g : Vec Ideal ⟨1, ![32768]⟩ .i32) (b : Fin 16) (t : Fin 32768) : EReal :=
  if g (ix1 t) = BitVec.ofNat 32 b.val then Ideal.exp (a t) else 0

/-- The small positive constant that the quotients add to their denominators. -/
abbrev eps : EReal := Ideal.ofBits .f32 0x322BCC77#32

/-- The value that the kernel computes for segment `b` and column `d`: the weighted sum of the column over the weights'
    sum, the small constant added to the latter. -/
def pooled (x : Vec Ideal ⟨2, ![32768, 512]⟩ .f32) (g : Vec Ideal ⟨1, ![32768]⟩ .i32) (a : Fin 32768 → EReal) (b : Fin 16)
    (d : Fin 512) : EReal :=
  Ideal.div (∑ t : Fin 32768, weight a g b t * x (ix2 t d)) ((∑ t : Fin 32768, weight a g b t) + eps)

/-- The largest score of segment `b`, the least extended real where the segment has no row. -/
def top (a : Fin 32768 → EReal) (g : Vec Ideal ⟨1, ![32768]⟩ .i32) (b : Fin 16) : EReal :=
  Finset.univ.sup fun t : Fin 32768 => if g (ix1 t) = BitVec.ofNat 32 b.val then a t else ⊥

/-- The sum over segment `b` of the exponentials of the scores less the largest score. -/
def shiftedSum (a : Fin 32768 → EReal) (g : Vec Ideal ⟨1, ![32768]⟩ .i32) (b : Fin 16) : EReal :=
  ∑ t : Fin 32768, if g (ix1 t) = BitVec.ofNat 32 b.val then Ideal.exp (a t - top a g b) else 0

/-- The value that a shifted softmax within segment `b` pools for column `d`, where `e` is added to the softmax's
    denominator. -/
def shiftedPooled (e : EReal) (x : Vec Ideal ⟨2, ![32768, 512]⟩ .f32) (g : Vec Ideal ⟨1, ![32768]⟩ .i32) (a : Fin 32768 → EReal)
    (b : Fin 16) (d : Fin 512) : EReal :=
  ∑ t : Fin 32768, if g (ix1 t) = BitVec.ofNat 32 b.val then
    x (ix2 t d) * Ideal.div (Ideal.exp (a t - top a g b)) (shiftedSum a g b + e) else 0

/-- A function on the rows, read at any natural number: zero beyond the last row. -/
def onNat (f : Fin 32768 → EReal) (n : ℕ) : EReal := if h : n < 32768 then f ⟨n, h⟩ else 0

/-- The sum of a function over all the rows is the sum over the first 32768 naturals. -/
theorem sum_onNat (f : Fin 32768 → EReal) : ∑ n ∈ Finset.range 32768, onNat f n = ∑ t : Fin 32768, f t := by
  rw [Finset.sum_range]
  exact Finset.sum_congr rfl fun t _ => dif_pos t.isLt

/-- One more tile of 4096 rows added to the sum over the tiles before it. -/
theorem sum_tile (f : Fin 32768 → EReal) (n : ℕ) :
    (∑ k ∈ Finset.range (4096 * n), onNat f k) + ∑ r : Fin 4096, onNat f (4096 * n + r.val)
      = ∑ k ∈ Finset.range (4096 * (n + 1)), onNat f k := by
  rw [Nat.mul_add, Nat.mul_one, Finset.sum_range_add, Finset.sum_range (fun k => onNat f (4096 * n + k))]

end Cert.Segment

end
-- ==== Proof.KernelArray.lean ====
/- The array the kernel leaves: its two running sums unrolled over the eight tiles of rows. -/
module

public import proofs.«01_k».proof.Proof.KernelBody
public import proofs.«01_k».proof.Proof.Score

@[expose] public section

set_option maxRecDepth 16384

noncomputable section

namespace Cert.KernelIdeal.Segment

open Idealize.ShloMosaic Idealize.ShloMosaic.TcCoe Idealize.ShloMosaic.Tactic
open Cert.KernelIdeal Cert.KernelIdeal.Gen Cert.KernelIdeal.Value Cert.Segment

section Fold

variable {F : FTy → Type} [FloatOps F]
variable (m : (ℓ : Loc nD τ sig) → Buf (Elt F) ℓ)

/-- One more tile added to the two running sums: the sums of the weights, and the weighted sums of the rows. -/
def tileStep (c : Dev nD) (t : Fin cfg0.N) (p : Vec F S1x16 .f32 × Vec F S16x512 .f32) : Vec F S1x16 .f32 × Vec F S16x512 .f32 :=
  (k0_pay6 (iblk m c 0 t) (iblk m c 2 t) (iblk m c 3 t) (iblk m c 1 t) p.1,
    accStep (iblk m c 0 t) (iblk m c 1 t) (iblk m c 2 t) (iblk m c 3 t) p.2)

/-- The two running sums after point `n`, started from zero. -/
def carried (c : Dev nD) : (n : ℕ) → n < cfg0.N → Vec F S1x16 .f32 × Vec F S16x512 .f32
  | 0, h => tileStep m c ⟨0, h⟩ (k0_pay3, k0_pay4)
  | n + 1, h => tileStep m c ⟨n + 1, h⟩ (carried c n (Nat.lt_of_succ_lt h))

/-- The first point leaves the sums of its own tile. -/
theorem first_point (c : Dev nD) (h : 0 < cfg0.N) : (outsAt0 m c 0 h).2 = tileStep m c ⟨0, h⟩ (k0_pay3, k0_pay4) := by
  have e := congrArg Prod.snd (outsAt0_A m c ⟨0, h⟩ (Nat.zero_mod 8) (by dsimp only; omega))
  rw [sums_first, acc_first] at e
  exact e

/-- A middle point adds its tile to what the point before left. -/
theorem middle_point (c : Dev nD) (n : ℕ) (h : n + 1 < cfg0.N) (h7 : n + 1 < 7) :
    (outsAt0 m c (n + 1) h).2 = tileStep m c ⟨n + 1, h⟩ (outsAt0 m c n (Nat.lt_of_succ_lt h)).2 := by
  have e := congrArg Prod.snd (outsAt0_B m c ⟨n + 1, h⟩ (by dsimp only; omega) (by dsimp only; omega))
  rw [sums_middle, acc_middle] at e
  exact e

/-- Before the last point the scratch arrays hold exactly the two running sums. -/
theorem carried_eq (c : Dev nD) (n : ℕ) : ∀ (h : n < cfg0.N), n < 7 → (outsAt0 m c n h).2 = carried m c n h := by
  induction n with
  | zero => intro h _; rw [first_point, carried]
  | succ n ih => intro h h7; rw [middle_point m c n h h7, ih _ (by omega), carried]

/-- The last point exists. -/
theorem last_lt : 7 < cfg0.N := lt_of_lt_of_eq (by decide) N_0.symm

/-- The output block after the last point is the quotient of the two finished sums. -/
theorem out_eq (c : Dev nD) : (outsAt0 m c 7 last_lt).1 = k0_pay2 (carried m c 7 last_lt).2 (carried m c 7 last_lt).1 := by
  have ih := carried_eq m c 6 (Nat.lt_of_succ_lt last_lt) (by omega)
  have e := congrArg Prod.fst (outsAt0_C m c ⟨7, last_lt⟩ (by decide) (by decide))
  rw [out_last] at e
  rw [carried, ← ih]
  exact e

/-- The result array is that quotient. -/
theorem result_eq (c : Dev nD) : G4 m c = k0_pay2 (carried m c 7 last_lt).2 (carried m c 7 last_lt).1 := by
  rw [G4_last, ← out_eq, outsAt0_sweep]

/-- The index of the block of the rows' window at a point. -/
theorem rows_index : ∀ t : Fin cfg0.N, win0_0.index t 0 = t.val ∧ win0_0.index t 1 = 0 :=
  (by decide +kernel : ∀ t : Fin grid0.N, win0_0.index t 0 = t.val ∧ win0_0.index t 1 = 0)

/-- The index of the block of the segment numbers' window at a point. -/
theorem seg_index : ∀ t : Fin cfg0.N, win0_1.index t 0 = t.val ∧ win0_1.index t 1 = 0 ∧ win0_1.index t 2 = 0 :=
  (by decide +kernel : ∀ t : Fin grid0.N, win0_1.index t 0 = t.val ∧ win0_1.index t 1 = 0 ∧ win0_1.index t 2 = 0)

/-- The index of the block of the first layer's window at a point: the window never moves. -/
theorem first_index : ∀ t : Fin cfg0.N, win0_2.index t 0 = 0 ∧ win0_2.index t 1 = 0 :=
  (by decide +kernel : ∀ t : Fin grid0.N, win0_2.index t 0 = 0 ∧ win0_2.index t 1 = 0)

/-- The index of the block of the second layer's window at a point: the window never moves. -/
theorem second_index : ∀ t : Fin cfg0.N, win0_3.index t 0 = 0 ∧ win0_3.index t 1 = 0 :=
  (by decide +kernel : ∀ t : Fin grid0.N, win0_3.index t 0 = 0 ∧ win0_3.index t 1 = 0)

/-- Row `r` of the tile of point `t`, as a row of the whole array. -/
def rowOf (t : Fin cfg0.N) (r : Fin 4096) : Fin 32768 :=
  ⟨4096 * t.val + r.val, by have := lt_of_lt_of_eq t.isLt N_0; have := r.isLt; omega⟩

/-- The tile of rows at a point, read in the array of rows. -/
theorem rows_block (c : Dev nD) (t : Fin cfg0.N) (r : Fin 4096) (j : Fin 512) :
    (iblk m c 0 t : Vec F S4096x512 .f32) (ix2 r j) = (m ((c : Thread nD τ).loc main_arg0) : Vec F S32768x512 .f32) (ix2 (rowOf t r) j) := by
  obtain ⟨h0, h1⟩ := rows_index t
  unfold iblk
  rw [View.read_apply]
  show V m c main_arg0 _ = _
  rw [V_main_arg0]
  congr 1
  funext a
  apply Fin.ext
  match a with
  | ⟨0, _⟩ => show win0_0.index t 0 * 4096 + 1 * r.val = 4096 * t.val + r.val; rw [h0]; omega
  | ⟨1, _⟩ => show win0_0.index t 1 * 512 + 1 * j.val = j.val; rw [h1]; omega

/-- The first layer's block at any point is the whole matrix. -/
theorem first_block (c : Dev nD) (t : Fin cfg0.N) (k j : Fin 512) :
    (iblk m c 2 t : Vec F S512x512 .f32) (ix2 k j) = (m ((c : Thread nD τ).loc main_arg3) : Vec F S512x512 .f32) (ix2 k j) := by
  obtain ⟨h0, h1⟩ := first_index t
  unfold iblk
  rw [View.read_apply]
  show V m c main_arg3 _ = _
  rw [V_main_arg3]
  congr 1
  funext a
  apply Fin.ext
  match a with
  | ⟨0, _⟩ => show win0_2.index t 0 * 512 + 1 * k.val = k.val; rw [h0]; omega
  | ⟨1, _⟩ => show win0_2.index t 1 * 512 + 1 * j.val = j.val; rw [h1]; omega

/-- The second layer's block at any point is the whole row. -/
theorem second_block (c : Dev nD) (t : Fin cfg0.N) (k : Fin 512) :
    (iblk m c 3 t : Vec F S1x512 .f32) (ix2 0 k) = (m ((c : Thread nD τ).loc main_arg5) : Vec F S1x512 .f32) (ix2 0 k) := by
  obtain ⟨h0, h1⟩ := second_index t
  unfold iblk
  rw [View.read_apply]
  show V m c main_arg5 _ = _
  rw [V_main_arg5]
  congr 1
  funext a
  apply Fin.ext
  match a with
  | ⟨0, _⟩ => show win0_3.index t 0 * 1 + 1 * 0 = 0; rw [h0]
  | ⟨1, _⟩ => show win0_3.index t 1 * 512 + 1 * k.val = k.val; rw [h1]; omega

/-- The segment numbers as the region finds them: the argument laid out as eight rows of 4096. -/
theorem seg_array (c : Dev nD) : (V m c main_call0_v0 : IVec S8x1x4096 32)
    = shapeCast S8x1x4096 (m ((c : Thread nD τ).loc main_arg1) : IVec S32768 32) shapeCasts_S32768_S8x1x4096 := by
  unfold V
  rw [StableHlo.after_cons, StableHlo.after_nil]
  exact StableHlo.reshape_result (Val := Elt F) main_arg1 main_call0_v0 rfl shapeCasts_S32768_S8x1x4096 _ _ _

/-- An array of 32768 numbers laid out as eight rows of 4096, read at an index. -/
theorem laid_out (g : IVec S32768 32) (n : Fin 8) (r : Fin 4096) :
    shapeCast S8x1x4096 g shapeCasts_S32768_S8x1x4096 (ix3 n (0 : Fin 1) r) = g (ix1 ⟨4096 * n.val + r.val, by omega⟩) := by
  pointwise
  congr 2
  apply Fin.ext
  show n.val * 4096 + r.val = 4096 * n.val + r.val
  omega

/-- The tile of segment numbers at a point, read in the argument. -/
theorem seg_block (c : Dev nD) (t : Fin cfg0.N) (r : Fin 4096) :
    (iblk m c 1 t : IVec S1x1x4096 32) (ix3 0 0 r) = (m ((c : Thread nD τ).loc main_arg1) : IVec S32768 32) (ix1 (rowOf t r)) := by
  obtain ⟨h0, h1, h2⟩ := seg_index t
  have ht : t.val < 8 := lt_of_lt_of_eq t.isLt N_0
  unfold iblk
  rw [View.read_apply]
  show (V m c main_call0_v0 : IVec S8x1x4096 32) _ = _
  rw [seg_array]
  have e : ∀ i : S8x1x4096.Idx, i = ix3 (⟨t.val, ht⟩ : Fin 8) (0 : Fin 1) r →
      shapeCast S8x1x4096 (m ((c : Thread nD τ).loc main_arg1) : IVec S32768 32) shapeCasts_S32768_S8x1x4096 i
        = (m ((c : Thread nD τ).loc main_arg1) : IVec S32768 32) (ix1 (rowOf t r)) := by
    rintro _ rfl
    exact laid_out _ ⟨t.val, ht⟩ r
  apply e
  funext a
  apply Fin.ext
  match a with
  | ⟨0, _⟩ => show win0_1.index t 0 * 1 + 1 * 0 = t.val; rw [h0]; omega
  | ⟨1, _⟩ => show win0_1.index t 1 * 1 + 1 * 0 = 0; rw [h1]
  | ⟨2, _⟩ => show win0_1.index t 2 * 4096 + 1 * r.val = r.val; rw [h2]; omega

end Fold

end Cert.KernelIdeal.Segment

end
-- ==== Proof.KernelValue.lean ====
/- The kernel's result over the extended reals: the two running sums are sums over all the rows, and the result array
   is their quotient. -/
module

public import proofs.«01_k».proof.Proof.KernelArray

@[expose] public section

set_option maxRecDepth 16384

noncomputable section

namespace Cert.KernelIdeal.Segment

open Idealize.ShloMosaic
open Cert.KernelIdeal Cert.KernelIdeal.Gen Cert.KernelIdeal.Value Cert.Segment

section Tile

variable (x : Vec Ideal S4096x512 .f32) (g : Vec Ideal S1x1x4096 .i32) (w1 : Vec Ideal S512x512 .f32) (w2 : Vec Ideal S1x512 .f32)

/-- The masked exponentials of one tile: the exponential of a row's score in the row's own segment, zero elsewhere. -/
theorem masked_apply (r : Fin 4096) (b : Fin 16) : k0_pay5 x w1 w2 g (ix2 r b)
    = if g (ix3 0 0 r) = BitVec.ofNat 32 b.val then
        Ideal.exp (∑ k : Fin 512, Ideal.tanh (∑ j : Fin 512, x (ix2 r j) * w1 (ix2 k j)) * w2 (ix2 0 k)) else 0 := by
  pointwise [k0_pay5]
  exact select_eq _ _ _ _

/-- The sums of the weights after one more tile, read at a segment. -/
theorem sums_apply (s : Vec Ideal S1x16 .f32) (b : Fin 16) :
    k0_pay6 x w1 w2 g s (ix2 0 b) = s (ix2 0 b) + ∑ r : Fin 4096, k0_pay5 x w1 w2 g (ix2 r b) := by
  pointwise [k0_pay6]

/-- The weighted sums after one more tile, read at a segment and a column. -/
theorem acc_apply (s : Vec Ideal S16x512 .f32) (b : Fin 16) (d : Fin 512) :
    accStep x g w1 w2 s (ix2 b d) = s (ix2 b d) + ∑ r : Fin 4096, k0_pay5 x w1 w2 g (ix2 r b) * x (ix2 r d) := by
  pointwise [k0_pay1, k0_pay7]

/-- The quotient stored at the end, read at a segment and a column. -/
theorem quotient_apply (a : Vec Ideal S16x512 .f32) (s : Vec Ideal S1x16 .f32) (b : Fin 16) (d : Fin 512) :
    k0_pay2 a s (ix2 b d) = Ideal.div (a (ix2 b d)) (s (ix2 0 b) + eps) := by
  pointwise [k0_pay2]

/-- The first scratch array starts at zero. -/
theorem sums_start (b : Fin 16) : k0_pay3 (F := Ideal) (ix2 0 b) = 0 := by
  pointwise [k0_pay3]

/-- The second scratch array starts at zero. -/
theorem acc_start (b : Fin 16) (d : Fin 512) : k0_pay4 (F := Ideal) (ix2 b d) = 0 := by
  pointwise [k0_pay4]

end Tile

variable (m : (ℓ : Loc nD τ sig) → Buf (Elt Ideal) ℓ) (c : Dev nD)

/-- The rows, as the kernel's first argument holds them. -/
abbrev rows : Vec Ideal S32768x512 .f32 := m ((c.tc : Thread nD τ).loc main_arg0)
/-- The segment numbers, as the kernel's second argument holds them. -/
abbrev segs : Vec Ideal S32768 .i32 := m ((c.tc : Thread nD τ).loc main_arg1)
/-- The scores of the rows. -/
abbrev scores : Fin 32768 → EReal :=
  score (rows m c) (m ((c.tc : Thread nD τ).loc main_arg3)) (m ((c.tc : Thread nD τ).loc main_arg5))

/-- The masked exponentials of the tile at a point are the weights of the tile's rows. -/
theorem masked_tile (t : Fin cfg0.N) (r : Fin 4096) (b : Fin 16) :
    k0_pay5 (F := Ideal) (iblk m c 0 t) (iblk m c 2 t) (iblk m c 3 t) (iblk m c 1 t) (ix2 r b)
      = weight (scores m c) (segs m c) b (rowOf t r) := by
  rw [masked_apply, seg_block m c t r]
  simp only [rows_block m c t, first_block m c t, second_block m c t]
  rfl

/-- A function on the rows at a row of a tile, read through the natural number of the row. -/
theorem onNat_row (f : Fin 32768 → EReal) (t : Fin cfg0.N) (r : Fin 4096) : onNat f (4096 * t.val + r.val) = f (rowOf t r) :=
  dif_pos (rowOf t r).isLt

/-- One tile adds the weights of its rows to the sums. -/
theorem sums_step (t : Fin cfg0.N) (p : Vec Ideal S1x16 .f32 × Vec Ideal S16x512 .f32) (b : Fin 16) :
    (tileStep m c t p).1 (ix2 0 b)
      = p.1 (ix2 0 b) + ∑ r : Fin 4096, onNat (weight (scores m c) (segs m c) b) (4096 * t.val + r.val) := by
  refine (sums_apply _ _ _ _ _ b).trans (congrArg (p.1 (ix2 0 b) + ·) (Finset.sum_congr rfl fun r _ => ?_))
  rw [masked_tile, onNat_row]

/-- One tile adds its rows, each times its weight, to the weighted sums. -/
theorem acc_step (t : Fin cfg0.N) (p : Vec Ideal S1x16 .f32 × Vec Ideal S16x512 .f32) (b : Fin 16) (d : Fin 512) :
    (tileStep m c t p).2 (ix2 b d)
      = p.2 (ix2 b d) + ∑ r : Fin 4096,
          onNat (fun k => weight (scores m c) (segs m c) b k * rows m c (ix2 k d)) (4096 * t.val + r.val) := by
  refine (acc_apply _ _ _ _ _ b d).trans (congrArg (p.2 (ix2 b d) + ·) (Finset.sum_congr rfl fun r _ => ?_))
  rw [masked_tile, onNat_row, rows_block m c]

/-- The sums of the weights after point `n`: over the rows of the tiles so far. -/
theorem sums_carried (b : Fin 16) (n : ℕ) : ∀ h : n < cfg0.N, (carried (F := Ideal) m c n h).1 (ix2 0 b)
    = ∑ k ∈ Finset.range (4096 * (n + 1)), onNat (weight (scores m c) (segs m c) b) k := by
  induction n with
  | zero =>
    intro h
    rw [carried, sums_step, ← sum_tile, Nat.mul_zero, Finset.range_zero, Finset.sum_empty]
    exact congrArg (· + _) (sums_start b)
  | succ n ih =>
    intro h
    rw [carried, sums_step, ih, ← sum_tile _ (n + 1)]

/-- The weighted sums after point `n`: over the rows of the tiles so far. -/
theorem acc_carried (b : Fin 16) (d : Fin 512) (n : ℕ) : ∀ h : n < cfg0.N, (carried (F := Ideal) m c n h).2 (ix2 b d)
    = ∑ k ∈ Finset.range (4096 * (n + 1)), onNat (fun t => weight (scores m c) (segs m c) b t * rows m c (ix2 t d)) k := by
  induction n with
  | zero =>
    intro h
    rw [carried, acc_step, ← sum_tile, Nat.mul_zero, Finset.range_zero, Finset.sum_empty]
    exact congrArg (· + _) (acc_start b d)
  | succ n ih =>
    intro h
    rw [carried, acc_step, ih, ← sum_tile _ (n + 1)]

/-- The kernel's result, element by element: the weighted sum over all the rows over the weights' sum plus the small constant. -/
theorem result_apply (b : Fin 16) (d : Fin 512) :
    (G4 (F := Ideal) m c : Vec Ideal S16x512 .f32) (ix2 b d) = pooled (rows m c) (segs m c) (scores m c) b d := by
  rw [result_eq, quotient_apply, sums_carried, acc_carried]
  show Ideal.div (∑ k ∈ Finset.range 32768, _) ((∑ k ∈ Finset.range 32768, _) + _) = _
  rw [sum_onNat, sum_onNat]
  rfl

end Cert.KernelIdeal.Segment

end
-- ==== Proof.SegmentOps.lean ====
/- The segment operations of the plain program, read at an element over the extended reals: a sum by segment of a vector
   and of a matrix, and a table read at each row's segment number. -/
module

public import proofs.«01_k».proof.Proof.Score
public import Idealize.ShloMosaic.Lib.Routing.OpsPair
public import Idealize.ShloMosaic.Lib.Routing.OpsSearch
public import Idealize.ShloMosaic.Lib.Pointwise.IndexBridge

@[expose] public section

set_option maxRecDepth 16384

noncomputable section

namespace Cert.Segment

open Idealize.ShloMosaic

/-- A word of 32 bits, read signed, is the small number `b` exactly when it is the word of `b`. -/
theorem toInt_eq_small (v : BitVec 32) (b : Fin 16) : v.toInt = (b.val : ℤ) ↔ v = BitVec.ofNat 32 b.val := by
  have hb := b.isLt
  have hv := v.isLt
  constructor
  · intro h
    apply BitVec.eq_of_toNat_eq
    rw [BitVec.toNat_ofNat, Nat.mod_eq_of_lt (by omega)]
    rw [BitVec.toInt_eq_toNat_cond] at h
    split at h <;> omega
  · rintro rfl
    rw [BitVec.toInt_eq_toNat_cond, BitVec.toNat_ofNat, Nat.mod_eq_of_lt (by omega), if_pos (by omega)]

section Vector

variable (wf : ScatterDims.WF ⟨1, ![16]⟩ ⟨2, ![32768, 1]⟩ ⟨1, ![32768]⟩ [] [0] [0] 1)

/-- The dimension numbers of a sum of scalars by segment. -/
def vecDims : ScatterDims ⟨1, ![16]⟩ ⟨2, ![32768, 1]⟩ ⟨1, ![32768]⟩ := ⟨[], [0], [0], 1, wf⟩

/-- The scalar of row `t` is added to the segment that the row's index word names. -/
theorem vec_start (idx : IVec ⟨2, ![32768, 1]⟩ 32) (t : Fin 32768) :
    (vecDims wf).start (ix1 t) idx 0 = (idx (ix2 t 0)).toInt := by
  unfold ScatterDims.start
  rw [dif_pos (show (0 : Fin 1) ∈ (vecDims wf).scatterDimsToOperandDims from List.mem_singleton.2 rfl)]
  congr 2
  funext a
  match a with
  | ⟨0, _⟩ => rfl
  | ⟨1, _⟩ => rfl

/-- A scalar has no offset inside its segment. -/
theorem vec_window (t : Fin 32768) : (vecDims wf).window (ix1 t) 0 = 0 := rfl

/-- Row `t`'s scalar lands in segment `b` exactly when the row's index word is the word of `b`. -/
theorem vec_lands (idx : IVec ⟨2, ![32768, 1]⟩ 32) (t : Fin 32768) (b : Fin 16) :
    (vecDims wf).resultIdx? (ix1 t) idx = some (ix1 b) ↔ idx (ix2 t 0) = BitVec.ofNat 32 b.val := by
  rw [Routing.resultIdx?_eq_some, ← toInt_eq_small]
  constructor
  · intro h
    have := h 0
    rw [vec_start, vec_window] at this
    simpa using this
  · intro h a
    match a with
    | ⟨0, _⟩ =>
      show (vecDims wf).start (ix1 t) idx 0 + ((vecDims wf).window (ix1 t) 0 : ℤ) = (b.val : ℤ)
      rw [vec_start, vec_window, h]; simp

/-- A sum of scalars by segment, read at a segment: the sum over the rows of the segment. -/
theorem vec_sum (x : Vec Ideal ⟨1, ![16]⟩ .f32) (idx : IVec ⟨2, ![32768, 1]⟩ 32) (u : Vec Ideal ⟨1, ![32768]⟩ .f32) (b : Fin 16) :
    Host.scatterAdd (F := Ideal) (φ := .f32) (vecDims wf) x idx u (ix1 b)
      = x (ix1 b) + ∑ t : Fin 32768, if idx (ix2 t 0) = BitVec.ofNat 32 b.val then u (ix1 t) else 0 := by
  show x (ix1 b) + ∑ j ∈ Finset.univ.filter (fun j => (vecDims wf).resultIdx? j idx = some (ix1 b)), u j = _
  rw [Finset.sum_filter, sum_idx1]
  refine congrArg (x (ix1 b) + ·) (Finset.sum_congr rfl fun t _ => ?_)
  exact if_congr (vec_lands wf idx t b) rfl rfl

end Vector

section Matrix

variable (wf : ScatterDims.WF ⟨2, ![16, 512]⟩ ⟨2, ![32768, 1]⟩ ⟨2, ![32768, 512]⟩ [1] [0] [0] 1)

/-- The dimension numbers of a sum of rows by segment. -/
def matDims : ScatterDims ⟨2, ![16, 512]⟩ ⟨2, ![32768, 1]⟩ ⟨2, ![32768, 512]⟩ := ⟨[1], [0], [0], 1, wf⟩

/-- Row `t` is added to the segment that the row's index word names. -/
theorem mat_start0 (idx : IVec ⟨2, ![32768, 1]⟩ 32) (t : Fin 32768) (e : Fin 512) :
    (matDims wf).start (ix2 t e) idx 0 = (idx (ix2 t 0)).toInt := by
  unfold ScatterDims.start
  rw [dif_pos (show (0 : Fin 2) ∈ (matDims wf).scatterDimsToOperandDims from List.mem_singleton.2 rfl)]
  congr 2
  funext a
  match a with
  | ⟨0, _⟩ => rfl
  | ⟨1, _⟩ => rfl

/-- A row starts at the first column. -/
theorem mat_start1 (idx : IVec ⟨2, ![32768, 1]⟩ 32) (t : Fin 32768) (e : Fin 512) : (matDims wf).start (ix2 t e) idx 1 = 0 := rfl

/-- A row has no offset among the segments. -/
theorem mat_window0 (t : Fin 32768) (e : Fin 512) : (matDims wf).window (ix2 t e) 0 = 0 := rfl

/-- An element of a row keeps its column. -/
theorem mat_window1 (t : Fin 32768) (e : Fin 512) : (matDims wf).window (ix2 t e) 1 = e.val := rfl

/-- The element of row `t` and column `e` lands at segment `b` and column `d` exactly when the row's index word is the word of
    `b` and the columns are the same. -/
theorem mat_lands (idx : IVec ⟨2, ![32768, 1]⟩ 32) (t : Fin 32768) (e : Fin 512) (b : Fin 16) (d : Fin 512) :
    (matDims wf).resultIdx? (ix2 t e) idx = some (ix2 b d) ↔ e = d ∧ idx (ix2 t 0) = BitVec.ofNat 32 b.val := by
  rw [Routing.resultIdx?_eq_some, ← toInt_eq_small]
  constructor
  · intro h
    have h0 : (matDims wf).start (ix2 t e) idx 0 + ((matDims wf).window (ix2 t e) 0 : ℤ) = (b.val : ℤ) := h 0
    have h1 : (matDims wf).start (ix2 t e) idx 1 + ((matDims wf).window (ix2 t e) 1 : ℤ) = (d.val : ℤ) := h 1
    rw [mat_start0, mat_window0] at h0
    rw [mat_start1, mat_window1] at h1
    exact ⟨Fin.ext (by omega), by omega⟩
  · rintro ⟨rfl, h⟩ a
    match a with
    | ⟨0, _⟩ =>
      show (matDims wf).start (ix2 t e) idx 0 + ((matDims wf).window (ix2 t e) 0 : ℤ) = (b.val : ℤ)
      rw [mat_start0, mat_window0, h]; simp
    | ⟨1, _⟩ =>
      show (matDims wf).start (ix2 t e) idx 1 + ((matDims wf).window (ix2 t e) 1 : ℤ) = (e.val : ℤ)
      rw [mat_start1, mat_window1]; simp

/-- A sum of rows by segment, read at a segment and a column: the sum of the column over the rows of the segment. -/
theorem mat_sum (x : Vec Ideal ⟨2, ![16, 512]⟩ .f32) (idx : IVec ⟨2, ![32768, 1]⟩ 32) (u : Vec Ideal ⟨2, ![32768, 512]⟩ .f32)
    (b : Fin 16) (d : Fin 512) :
    Host.scatterAdd (F := Ideal) (φ := .f32) (matDims wf) x idx u (ix2 b d)
      = x (ix2 b d) + ∑ t : Fin 32768, if idx (ix2 t 0) = BitVec.ofNat 32 b.val then u (ix2 t d) else 0 := by
  show x (ix2 b d) + ∑ j ∈ Finset.univ.filter (fun j => (matDims wf).resultIdx? j idx = some (ix2 b d)), u j = _
  rw [Finset.sum_filter, sum_idx2]
  refine congrArg (x (ix2 b d) + ·) (Finset.sum_congr rfl fun t _ => ?_)
  rw [Finset.sum_eq_single d]
  · exact if_congr ((mat_lands wf idx t d b d).trans (and_iff_right rfl)) rfl rfl
  · intro e _ he
    exact if_neg fun h => he ((mat_lands wf idx t e b d).1 h).1
  · exact fun h => absurd (Finset.mem_univ d) h

end Matrix

/-- A table of sixteen entries read at each row's segment number, where the number of row `t` is `b`. -/
theorem table_read (dims : GatherDims ⟨1, ![16]⟩ ⟨2, ![32768, 1]⟩ ⟨1, ![32768]⟩) (hc : dims.collapsedSliceDims = [0])
    (ho : dims.operandBatchingDims = []) (hs : dims.startIndexMap = [0]) (hi : dims.indexVectorDim = 1)
    (x : Vec Ideal ⟨1, ![16]⟩ .f32) (idx : IVec ⟨2, ![32768, 1]⟩ 32) (t : Fin 32768) (b : Fin 16)
    (h : idx (ix2 t 0) = BitVec.ofNat 32 b.val) : Host.gather dims x idx (ix1 t) = x (ix1 b) := by
  have hb := b.isLt
  rw [ix1_eq_valueIdx, ix1_eq_valueIdx]
  rw [ix2_eq_valueIdx] at h
  exact Routing.take_ap dims hc ho hs hi x idx t b.isLt (by omega) h

end Cert.Segment

end
-- ==== Proof.Reference.lean ====
/- The reference over the extended reals: its steps as functions of plain arrays, and each step read at an element. -/
module

public import proofs.«01_k».proof.Proof.SegmentOps
public import proofs.«01_k».proof.Proof.Gen.ReferenceIdeal.Run

@[expose] public section

set_option maxRecDepth 16384

noncomputable section

namespace Cert.ReferenceIdeal.Segment

open Idealize.ShloMosaic
open Cert.ReferenceIdeal Cert.ReferenceIdeal.Gen Cert.ReferenceIdeal.Value Cert.Segment

/-- The scores of the rows: two layers, the hyperbolic tangent between them. -/
def refScore (x : FVec Ideal S32768x512 .f32) (w1 : FVec Ideal S512x512 .f32) (b1 : FVec Ideal S512 .f32)
    (w2 : FVec Ideal S1x512 .f32) (b2 : FVec Ideal S1 .f32) : FVec Ideal S32768 .f32 :=
  shapeCast _ (addf (Host.dotGeneral dot_S32768x512_S512x1_S32768x1_1_0_0_1_n_n none (Host.tanh (addf (Host.dotGeneral dot_S32768x512_S512x512_S32768x512_1_0_0_1_n_n none x (transpose S512x512 [1, 0] w1 transposes_S512x512_S512x512_1_0)) (broadcastInDim S32768x512 ![0, 1] bcast_S1x512_S32768x512_0_1 (broadcastInDim S1x512 ![1] bcast_S512_S1x512_1 b1)))) (transpose S512x1 [1, 0] w2 transposes_S1x512_S512x1_1_0)) (broadcastInDim S32768x1 ![0, 1] bcast_S1x1_S32768x1_0_1 (broadcastInDim S1x1 ![1] bcast_S1_S1x1_1 b2))) shapeCasts_S32768x1_S32768

/-- The largest score of each segment. -/
def refMax (g : IVec S32768 32) (a : FVec Ideal S32768 .f32) : FVec Ideal S16 .f32 :=
  Host.reduce (FloatOps.maximumf (F := Ideal) (φ := .f32)) (select (cmpi .eq (broadcastInDim S32768x16 ![0, 1] bcast_S32768x1_S32768x16_0_1 (broadcastInDim S32768x1 ![0] bcast_S32768_S32768x1_0 g)) (broadcastInDim S32768x16 ![0, 1] bcast_S1x16_S32768x16_0_1 (broadcastInDim S1x16 ![1] bcast_S16_S1x16_1 (iotaInDim S16 32 0)))) (broadcastInDim S32768x16 ![0, 1] bcast_S32768x1_S32768x16_0_1 (broadcastInDim S32768x1 ![0] bcast_S32768_S32768x1_0 a)) (broadcastInDim S32768x16 ![] bcast_S_S32768x16 (id (constant S_ .f32 0xFF800000#32)))) (constant S_ .f32 0xFF800000#32) reducesTo_S32768x16_S16_d0 h_S_

/-- The segment numbers as a table is read at them. -/
def refIdx (g : IVec S32768 32) : IVec S32768x1 32 :=
  broadcastInDim S32768x1 ![0] bcast_S32768_S32768x1_0 (select (cmpi .slt g (broadcastInDim S32768 ![] bcast_S_S32768 (constantI S_ 32 0#32))) (addi g (broadcastInDim S32768 ![] bcast_S_S32768 (constantI S_ 32 16#32))) g)

/-- The exponential of each score less the largest of its segment. -/
def refExp (g : IVec S32768 32) (a : FVec Ideal S32768 .f32) : FVec Ideal S32768 .f32 :=
  Host.exp (subf a (Host.gather gather_S16_S32768x1_S32768_n_0_n_n_0_1_1 (refMax g a) (refIdx g)))

/-- The sum of the exponentials of each segment. -/
def refSum (g : IVec S32768 32) (a : FVec Ideal S32768 .f32) : FVec Ideal S16 .f32 :=
  Host.scatterAdd scatter_S16_S32768x1_S32768_n_0_0_1 (broadcastInDim S16 ![] bcast_S_S16 (constant S_ .f32 0x00000000#32)) (broadcastInDim S32768x1 ![0] bcast_S32768_S32768x1_0 g) (refExp g a)

/-- The small constant as each segment adds it. -/
def refEps (g : IVec S32768 32) (a : FVec Ideal S32768 .f32) : FVec Ideal S16 .f32 :=
  mulf (broadcastInDim S16 ![] bcast_S_S16 (constant S_ .f32 0x322BCC77#32)) (Host.exp (Host.negf (refMax g a)))

/-- The weight of each row. -/
def refWeight (g : IVec S32768 32) (a : FVec Ideal S32768 .f32) : FVec Ideal S32768 .f32 :=
  Host.divf (refExp g a) (addf (Host.gather gather_S16_S32768x1_S32768_n_0_n_n_0_1_1 (refSum g a) (refIdx g)) (Host.gather gather_S16_S32768x1_S32768_n_0_n_n_0_1_1 (refEps g a) (refIdx g)))

/-- The weighted sums of the rows of each segment. -/
def refOut (x : FVec Ideal S32768x512 .f32) (g : IVec S32768 32) (w : FVec Ideal S32768 .f32) : FVec Ideal S16x512 .f32 :=
  Host.scatterAdd scatter_S16x512_S32768x1_S32768x512_1_0_0_1 (broadcastInDim S16x512 ![] bcast_S_S16x512 (constant S_ .f32 0x00000000#32)) (broadcastInDim S32768x1 ![0] bcast_S32768_S32768x1_0 g) (mulf x (broadcastInDim S32768x512 ![0, 1] bcast_S32768x1_S32768x512_0_1 (broadcastInDim S32768x1 ![0] bcast_S32768_S32768x1_0 w)))

set_option maxHeartbeats 2000000 in
/-- The reference's result is the composition of its steps. -/
theorem result_eq (m : (ℓ : Loc nD τ sig) → Buf (Elt Ideal) ℓ) (c : Dev nD) :
    res_main_v58 (F := Ideal) m c
      = refOut (m ((c.tc : Thread nD τ).loc main_arg0)) (m ((c.tc : Thread nD τ).loc main_arg1))
          (refWeight (m ((c.tc : Thread nD τ).loc main_arg1))
            (refScore (m ((c.tc : Thread nD τ).loc main_arg0)) (m ((c.tc : Thread nD τ).loc main_arg3)) (m ((c.tc : Thread nD τ).loc main_arg4))
              (m ((c.tc : Thread nD τ).loc main_arg5)) (m ((c.tc : Thread nD τ).loc main_arg6)))) := rfl

/-- A row's score, where both offsets are zero. -/
theorem score_apply (x : FVec Ideal S32768x512 .f32) (w1 : FVec Ideal S512x512 .f32) (b1 : FVec Ideal S512 .f32)
    (w2 : FVec Ideal S1x512 .f32) (b2 : FVec Ideal S1 .f32) (h1 : ∀ k : Fin 512, b1 (ix1 k) = 0) (h2 : b2 (ix1 0) = 0) (t : Fin 32768) :
    refScore x w1 b1 w2 b2 (ix1 t) = score x w1 w2 t := by
  pointwise [refScore]
  rw [h2, add_zero]
  exact Finset.sum_congr rfl fun k _ => by rw [h1 k, add_zero]

/-- The word of negative infinity is the least extended real. -/
theorem ofBits_bot : Ideal.ofBits .f32 0xFF800000#32 = ⊥ := by
  simp [Ideal.ofBits, Ideal.ieee]

/-- A segment's largest score. -/
theorem max_apply (g : IVec S32768 32) (a : FVec Ideal S32768 .f32) (b : Fin 16) :
    refMax g a (ix1 b) = top (fun t => a (ix1 t)) g b := by
  pointwise [refMax]
  have e : id (constant (F := Ideal) S_ .f32 0xFF800000#32) ix0 = (⊥ : EReal) := ofBits_bot
  rw [ofBits_bot, e]
  simp only [select_eq]
  rfl

/-- A segment number below sixteen is read as it stands. -/
theorem idx_apply (g : IVec S32768 32) (t : Fin 32768) (b : Fin 16) (h : g (ix1 t) = BitVec.ofNat 32 b.val) :
    refIdx g (ix2 t 0) = BitVec.ofNat 32 b.val := by
  have hb := b.isLt
  pointwise [refIdx]
  rw [h]
  refine Routing.wrap_of_lt _ _ ?_
  rw [BitVec.toNat_ofNat, Nat.mod_eq_of_lt (by omega)]
  omega

/-- A table read at the rows' segment numbers gives a row the entry of its segment. -/
theorem read_apply (y : FVec Ideal S16 .f32) (g : IVec S32768 32) (t : Fin 32768) (b : Fin 16)
    (h : g (ix1 t) = BitVec.ofNat 32 b.val) :
    Host.gather gather_S16_S32768x1_S32768_n_0_n_n_0_1_1 y (refIdx g) (ix1 t) = y (ix1 b) :=
  table_read _ rfl rfl rfl rfl y _ t b (idx_apply g t b h)

/-- The exponential of a row's score less the largest score of the row's segment. -/
theorem exp_apply (g : IVec S32768 32) (a : FVec Ideal S32768 .f32) (t : Fin 32768) (b : Fin 16)
    (h : g (ix1 t) = BitVec.ofNat 32 b.val) :
    refExp g a (ix1 t) = Ideal.exp (a (ix1 t) - top (fun t => a (ix1 t)) g b) := by
  pointwise [refExp]
  rw [read_apply _ g t b h, max_apply]

/-- A segment's sum of exponentials. -/
theorem sum_apply (g : IVec S32768 32) (a : FVec Ideal S32768 .f32) (b : Fin 16) :
    refSum g a (ix1 b) = shiftedSum (fun t => a (ix1 t)) g b := by
  refine (vec_sum scatter_S16_S32768x1_S32768_n_0_0_1_wf _ _ _ b).trans ?_
  pointwise
  exact Finset.sum_congr rfl fun t _ => ite_congr rfl (fun h => exp_apply g a t b h) fun _ => rfl

/-- The small constant that a segment adds. -/
theorem eps_apply (g : IVec S32768 32) (a : FVec Ideal S32768 .f32) (b : Fin 16) :
    refEps g a (ix1 b) = eps * Ideal.exp (-top (fun t => a (ix1 t)) g b) := by
  pointwise [refEps]
  rw [max_apply]

/-- A row's weight. -/
theorem weight_apply (g : IVec S32768 32) (a : FVec Ideal S32768 .f32) (t : Fin 32768) (b : Fin 16)
    (h : g (ix1 t) = BitVec.ofNat 32 b.val) :
    refWeight g a (ix1 t) = Ideal.div (Ideal.exp (a (ix1 t) - top (fun t => a (ix1 t)) g b))
      (shiftedSum (fun t => a (ix1 t)) g b + eps * Ideal.exp (-top (fun t => a (ix1 t)) g b)) := by
  pointwise [refWeight]
  rw [read_apply _ g t b h, read_apply _ g t b h, exp_apply g a t b h, sum_apply, eps_apply]

/-- The weighted sums of the rows, for any weights, read at a segment and a column. -/
theorem out_apply (x : FVec Ideal S32768x512 .f32) (g : IVec S32768 32) (w : FVec Ideal S32768 .f32) (b : Fin 16) (d : Fin 512) :
    refOut x g w (ix2 b d) = ∑ t : Fin 32768, if g (ix1 t) = BitVec.ofNat 32 b.val then x (ix2 t d) * w (ix1 t) else 0 := by
  refine (mat_sum scatter_S16x512_S32768x1_S32768x512_1_0_0_1_wf _ _ _ b d).trans ?_
  pointwise

/-- The reference's result, read at a segment and a column. -/
theorem pooled_apply (x : FVec Ideal S32768x512 .f32) (g : IVec S32768 32) (a : FVec Ideal S32768 .f32) (b : Fin 16) (d : Fin 512) :
    refOut x g (refWeight g a) (ix2 b d)
      = shiftedPooled (eps * Ideal.exp (-top (fun t => a (ix1 t)) g b)) x g (fun t => a (ix1 t)) b d := by
  rw [out_apply]
  exact Finset.sum_congr rfl fun t _ => ite_congr rfl (fun h => congrArg (x (ix2 t d) * ·) (weight_apply g a t b h)) fun _ => rfl

end Cert.ReferenceIdeal.Segment

end
-- ==== Proof.Algebra.lean ====
/- The equation between the two programs' closed forms: a softmax over a segment does not change when the largest score is
   subtracted, provided that the small constant is scaled alike. -/
module

public import proofs.«01_k».proof.Proof.Score
public import Mathlib.Data.EReal.Operations

@[expose] public section

noncomputable section

namespace Cert.Segment

open Idealize.ShloMosaic

/-- A sum of real numbers is the same among the extended reals. -/
theorem coe_sum {ι : Type} (s : Finset ι) (f : ι → ℝ) : ((∑ i ∈ s, f i : ℝ) : EReal) = ∑ i ∈ s, ((f i : ℝ) : EReal) := by
  classical
  induction s using Finset.induction_on with
  | empty => simp
  | insert i s hi ih => rw [Finset.sum_insert hi, Finset.sum_insert hi, EReal.coe_add, ih]

/-- A nonnegative real number multiplies a sum of extended reals term by term. -/
theorem sum_mul_coe {ι : Type} (s : Finset ι) (f : ι → EReal) (r : ℝ) (hr : 0 ≤ r) :
    (∑ i ∈ s, f i) * (r : EReal) = ∑ i ∈ s, f i * (r : EReal) := by
  classical
  induction s using Finset.induction_on with
  | empty => simp
  | insert i s hi ih =>
    rw [Finset.sum_insert hi, Finset.sum_insert hi, ← ih]
    exact EReal.right_distrib_of_nonneg_of_ne_top (EReal.coe_nonneg.2 hr) (EReal.coe_ne_top r) _ _

/-- The small constant, as a real number: the number nearest to a hundred-millionth that the 32-bit format holds. -/
def epsReal : ℝ := 11258999 * 2 ^ (-50 : ℤ)

/-- The small constant is a real number. -/
theorem eps_eq : eps = (epsReal : EReal) := by
  simp [epsReal, Ideal.ofBits, Ideal.ieee]

/-- The small constant is positive. -/
theorem epsReal_pos : 0 < epsReal := by
  unfold epsReal; positivity

/-- A quotient of real numbers, the divisor positive. -/
theorem div_real (x y : ℝ) (h : 0 < y) : Ideal.div (x : EReal) (y : EReal) = ((x / y : ℝ) : EReal) := by
  rw [Ideal.div_coe h.ne', ← EReal.coe_mul, mul_one_div]

section Real

variable (a : Fin 32768 → ℝ) (g : Vec Ideal ⟨1, ![32768]⟩ .i32) (b : Fin 16)

/-- Row `t` is in segment `b`. -/
abbrev isIn (t : Fin 32768) : Prop := g (ix1 t) = BitVec.ofNat 32 b.val

/-- The sum over segment `b` of the exponentials of the scores less `m`, as a real number. -/
def expSum (m : ℝ) : ℝ := ∑ t : Fin 32768, if isIn g b t then Real.exp (a t - m) else 0

/-- The sum of exponentials is not negative. -/
theorem expSum_nonneg (m : ℝ) : 0 ≤ expSum a g b m :=
  Finset.sum_nonneg fun t _ => by
    split
    · exact (Real.exp_pos _).le
    · exact le_rfl

/-- Subtracting `m` from every score scales the sum of exponentials. -/
theorem expSum_shift (m : ℝ) : expSum a g b m = expSum a g b 0 * Real.exp (-m) := by
  unfold expSum
  rw [Finset.sum_mul]
  refine Finset.sum_congr rfl fun t _ => ?_
  split
  · rw [← Real.exp_add]; congr 1; ring
  · rw [zero_mul]

/-- The sum of the weights is the real sum of exponentials. -/
theorem sum_weight : ∑ t : Fin 32768, weight (fun t => (a t : EReal)) g b t = (expSum a g b 0 : EReal) := by
  unfold expSum
  rw [coe_sum]
  refine Finset.sum_congr rfl fun t _ => ?_
  unfold weight
  split
  · rw [Ideal.exp_coe, sub_zero]
  · rfl

/-- The shifted sum is the real shifted sum, where the largest score is the real number `m`. -/
theorem shiftedSum_eq (m : ℝ) (hm : top (fun t => (a t : EReal)) g b = (m : EReal)) :
    shiftedSum (fun t => (a t : EReal)) g b = (expSum a g b m : EReal) := by
  unfold shiftedSum expSum
  rw [coe_sum, hm]
  refine Finset.sum_congr rfl fun t _ => ?_
  split
  · rw [← EReal.coe_sub, Ideal.exp_coe]
  · rfl

/-- The kernel's value is the sum of the rows, each times a real weight. -/
theorem pooled_eq (x : Vec Ideal ⟨2, ![32768, 512]⟩ .f32) (d : Fin 512) :
    pooled x g (fun t => (a t : EReal)) b d
      = ∑ t : Fin 32768, if isIn g b t then
          x (ix2 t d) * ((Real.exp (a t) / (expSum a g b 0 + epsReal) : ℝ) : EReal) else 0 := by
  have hpos : 0 < expSum a g b 0 + epsReal := add_pos_of_nonneg_of_pos (expSum_nonneg a g b 0) epsReal_pos
  unfold pooled
  rw [sum_weight, eps_eq, ← EReal.coe_add, Ideal.div_coe hpos.ne', sum_mul_coe _ _ _ (one_div_pos.2 hpos).le]
  refine Finset.sum_congr rfl fun t _ => ?_
  unfold weight
  split
  · rw [Ideal.exp_coe, mul_comm (Real.exp (a t) : EReal), mul_assoc, ← EReal.coe_mul, mul_one_div]
  · rw [zero_mul, zero_mul]

/-- A shifted softmax's value is the sum of the rows, each times a real weight, where the largest score is the real
    number `m` and the added constant is the real number `e`. -/
theorem shiftedPooled_eq (m e : ℝ) (he : 0 < e) (hm : top (fun t => (a t : EReal)) g b = (m : EReal))
    (x : Vec Ideal ⟨2, ![32768, 512]⟩ .f32) (d : Fin 512) :
    shiftedPooled (e : EReal) x g (fun t => (a t : EReal)) b d
      = ∑ t : Fin 32768, if isIn g b t then
          x (ix2 t d) * ((Real.exp (a t - m) / (expSum a g b m + e) : ℝ) : EReal) else 0 := by
  have hpos : 0 < expSum a g b m + e := add_pos_of_nonneg_of_pos (expSum_nonneg a g b m) he
  unfold shiftedPooled
  rw [shiftedSum_eq a g b m hm, hm, ← EReal.coe_add]
  refine Finset.sum_congr rfl fun t _ => ?_
  split
  · rw [← EReal.coe_sub, Ideal.exp_coe, div_real _ _ hpos]
  · rfl

/-- The two weights of a row agree, where the constant is scaled by the exponential of the largest score negated. -/
theorem weights_agree (m s e y : ℝ) : Real.exp (y - m) / (s * Real.exp (-m) + e * Real.exp (-m)) = Real.exp y / (s + e) := by
  rw [← add_mul, sub_eq_add_neg, Real.exp_add, mul_div_mul_right _ _ (Real.exp_pos _).ne']

/-- The largest score of a segment with a row in it is the score of one of its rows. -/
theorem top_real (t₀ : Fin 32768) (h₀ : isIn g b t₀) :
    ∃ t, isIn g b t ∧ (∀ t', isIn g b t' → a t' ≤ a t) ∧ top (fun t => (a t : EReal)) g b = (a t : EReal) := by
  obtain ⟨t, ht, hmax⟩ := Finset.exists_max_image (Finset.univ.filter fun t => isIn g b t) a ⟨t₀, by simpa using h₀⟩
  have hin : isIn g b t := by simpa using ht
  have hle : ∀ t', isIn g b t' → a t' ≤ a t := fun t' h => hmax t' (by simpa using h)
  refine ⟨t, hin, hle, le_antisymm (Finset.sup_le fun t' _ => ?_) ?_⟩
  · dsimp only
    split
    · next h => exact EReal.coe_le_coe_iff.2 (hle t' h)
    · exact bot_le
  · have := Finset.le_sup (f := fun t => if g (ix1 t) = BitVec.ofNat 32 b.val then (a t : EReal) else ⊥) (Finset.mem_univ t)
    rw [if_pos hin] at this
    exact this

/-- The equation: over real scores, the kernel's value is the shifted softmax's with the constant scaled. -/
theorem pooled_eq_shifted (x : Vec Ideal ⟨2, ![32768, 512]⟩ .f32) (d : Fin 512) :
    pooled x g (fun t => (a t : EReal)) b d
      = shiftedPooled (eps * Ideal.exp (-top (fun t => (a t : EReal)) g b)) x g (fun t => (a t : EReal)) b d := by
  by_cases h : ∃ t, isIn g b t
  · obtain ⟨t₀, h₀⟩ := h
    obtain ⟨t, -, -, hm⟩ := top_real a g b t₀ h₀
    have e : eps * Ideal.exp (-top (fun t => (a t : EReal)) g b) = ((epsReal * Real.exp (-a t) : ℝ) : EReal) := by
      rw [hm, eps_eq, ← EReal.coe_neg, Ideal.exp_coe, EReal.coe_mul]
    rw [e, shiftedPooled_eq a g b (a t) _ (mul_pos epsReal_pos (Real.exp_pos _)) hm, pooled_eq, expSum_shift a g b (a t)]
    simp only [weights_agree]
  · have hn : ∀ t, ¬ g (ix1 t) = BitVec.ofNat 32 b.val := fun t ht => h ⟨t, ht⟩
    rw [pooled_eq]
    unfold shiftedPooled
    exact Finset.sum_congr rfl fun t _ => by rw [if_neg (hn t), if_neg (hn t)]

end Real

end Cert.Segment

end
-- ==== Proof.Drawn.lean ====
/- What the precondition says: the two offsets are zero, and the second layer's weights are real numbers. -/
module

public import proofs.«01_k».proof.Proof.Algebra
public import proofs.«01_k».proof.Proof.Gen.Pre_as_drawn
public import Idealize.ShloMosaic.Lib.ReduceAll

@[expose] public section

set_option maxRecDepth 16384

noncomputable section

namespace Cert.Segment

open Idealize.ShloMosaic
open Cert.Pre_as_drawn Cert.Pre_as_drawn.Gen

/-- An extended real that compares equal to zero is zero. -/
theorem zero_of_oeq (v : EReal) (h : FloatOps.cmpf (F := Ideal) (φ := .f32) .oeq v (Ideal.ofBits .f32 0x00000000#32) = 1#1) : v = 0 := by
  rw [Ideal.cmpf_def, Ideal.ofBits_zero_f32] at h
  by_contra hv
  simp [Ideal.cmp, hv] at h

/-- The word of positive infinity is the greatest extended real. -/
theorem ofBits_top : Ideal.ofBits .f32 0x7F800000#32 = ⊤ := by
  simp [Ideal.ofBits, Ideal.ieee]

/-- An extended real whose absolute value compares less than infinity is a real number. -/
theorem real_of_olt (v : EReal)
    (h : FloatOps.cmpf (F := Ideal) (φ := .f32) .olt (max v (-v)) (Ideal.ofBits .f32 0x7F800000#32) = 1#1) : ∃ r : ℝ, v = (r : EReal) := by
  rw [Ideal.cmpf_def, ofBits_top] at h
  induction v with
  | bot => simp [Ideal.cmp] at h
  | top => simp [Ideal.cmp] at h
  | coe r => exact ⟨r, rfl⟩

variable (x : FVec Ideal S32768x512 .f32) (g : IVec S32768 32) (s : IVec S16 32) (w1 : FVec Ideal S512x512 .f32) (b1 : FVec Ideal S512 .f32)
  (w2 : FVec Ideal S1x512 .f32) (b2 : FVec Ideal S1 .f32)

/-- The precondition in plain terms. -/
structure Drawn : Prop where
  /-- The first layer's offset is zero. -/
  first : ∀ k : Fin 512, b1 (ix1 k) = 0
  /-- The second layer's offset is zero. -/
  second : b2 (ix1 0) = 0
  /-- The second layer's weights are real numbers. -/
  real : ∀ k : Fin 512, ∃ r : ℝ, w2 (ix2 0 k) = (r : EReal)

/-- The precondition's function, all ones, gives the three facts. -/
theorem drawn (h : fn (F := Ideal) x g s w1 b1 w2 b2 = fun _ => 1#1) : Drawn b1 w2 b2 := by
  have e := congrFun h ix0
  obtain ⟨e, e3⟩ := IntOp.andi_eq_one.1 e
  obtain ⟨e1, e2⟩ := IntOp.andi_eq_one.1 e
  refine ⟨fun k => ?_, ?_, fun k => ?_⟩
  · exact zero_of_oeq _ (Host.reduce_andi_all _ _ _ _ ix0 e1 (ix1 k))
  · exact zero_of_oeq _ (Host.reduce_andi_all _ _ _ _ ix0 e2 (ix1 0))
  · exact real_of_olt _ (Host.reduce_andi_all _ _ _ _ ix0 e3 (ix2 0 k))

/-- The hyperbolic tangent of any extended real is a real number. -/
theorem tanh_real (v : EReal) : ∃ r : ℝ, Ideal.tanh v = (r : EReal) := by
  induction v with
  | bot => exact ⟨-1, rfl⟩
  | top => exact ⟨1, rfl⟩
  | coe r => exact ⟨Real.tanh r, rfl⟩

/-- A row's score is a real number, where the second layer's weights are. -/
theorem score_real (h : ∀ k : Fin 512, ∃ r : ℝ, w2 (ix2 0 k) = (r : EReal)) (t : Fin 32768) :
    ∃ r : ℝ, score x w1 w2 t = (r : EReal) := by
  choose v hv using h
  choose u hu using fun k : Fin 512 => tanh_real (∑ j : Fin 512, x (ix2 t j) * w1 (ix2 k j))
  refine ⟨∑ k : Fin 512, u k * v k, ?_⟩
  unfold score
  rw [coe_sum]
  exact Finset.sum_congr rfl fun k _ => by rw [hu, hv, EReal.coe_mul]

end Cert.Segment

end
-- ==== Proof.Equation.lean ====
/- The kernel's result array is the reference's, wherever the precondition holds. -/
module

public import proofs.«01_k».proof.Proof.KernelValue
public import proofs.«01_k».proof.Proof.Reference
public import proofs.«01_k».proof.Proof.Drawn

@[expose] public section

set_option maxRecDepth 16384

noncomputable section

namespace Cert.Segment

open Idealize.ShloMosaic
open Cert.ReferenceIdeal Cert.ReferenceIdeal.Segment

variable (x : FVec Ideal S32768x512 .f32) (g : IVec S32768 32) (w1 : FVec Ideal S512x512 .f32) (b1 : FVec Ideal S512 .f32)
  (w2 : FVec Ideal S1x512 .f32) (b2 : FVec Ideal S1 .f32)

/-- The reference's scores are the kernel's, and they are real numbers, where the precondition holds. -/
theorem scores_agree (h : Drawn b1 w2 b2) : ∃ a : Fin 32768 → ℝ, (fun t => refScore x w1 b1 w2 b2 (ix1 t)) = (fun t => (a t : EReal))
    ∧ score x w1 w2 = fun t => (a t : EReal) := by
  choose a ha using fun t => score_real x w1 w2 h.real t
  exact ⟨a, funext fun t => (score_apply x w1 b1 w2 b2 h.first h.second t).trans (ha t), funext ha⟩

/-- The reference's value for a segment and a column is the kernel's, where the precondition holds. -/
theorem reference_pooled (h : Drawn b1 w2 b2) (b : Fin 16) (d : Fin 512) :
    refOut x g (refWeight g (refScore x w1 b1 w2 b2)) (ix2 b d) = pooled x g (score x w1 w2) b d := by
  obtain ⟨a, hr, hk⟩ := scores_agree x w1 b1 w2 b2 h
  rw [pooled_apply, hr, hk]
  exact (pooled_eq_shifted a g b x d).symm

/-- The reference's result on the kernel's arguments is the kernel's result array, where the precondition holds. -/
theorem arrays_agree (m : (ℓ : Loc Cert.KernelIdeal.nD Cert.KernelIdeal.τ Cert.KernelIdeal.sig) → Buf (Elt Ideal) ℓ) (c : Dev Cert.KernelIdeal.nD)
    (b1 : FVec Ideal S512 .f32) (b2 : FVec Ideal S1 .f32)
    (h : Drawn b1 (m ((c.tc : Thread Cert.KernelIdeal.nD Cert.KernelIdeal.τ).loc Cert.KernelIdeal.main_arg5)) b2) :
    refOut (Cert.KernelIdeal.Segment.rows m c) (Cert.KernelIdeal.Segment.segs m c)
        (refWeight (Cert.KernelIdeal.Segment.segs m c) (refScore (Cert.KernelIdeal.Segment.rows m c)
          (m ((c.tc : Thread Cert.KernelIdeal.nD Cert.KernelIdeal.τ).loc Cert.KernelIdeal.main_arg3)) b1
          (m ((c.tc : Thread Cert.KernelIdeal.nD Cert.KernelIdeal.τ).loc Cert.KernelIdeal.main_arg5)) b2))
      = Cert.KernelIdeal.Value.G4 (F := Ideal) m c := by
  funext i
  idx_vars i
  exact (reference_pooled _ _ _ _ _ _ h _ _).trans (Cert.KernelIdeal.Segment.result_apply m c _ _).symm

end Cert.Segment

end
-- ==== Proof.Closeness.lean ====
/- How the kernel's value relates to a softmax that adds the small constant unscaled: an exact equation of products, and a
   bound on the difference. The two values do differ. -/
module

public import proofs.«01_k».proof.Proof.Algebra

@[expose] public section

noncomputable section

namespace Cert.Segment

open Idealize.ShloMosaic

/-- The absolute value of a real number, among the extended reals. -/
theorem abs_coe (r : ℝ) : max (r : EReal) (-(r : EReal)) = ((|r| : ℝ) : EReal) := by
  rw [← EReal.coe_neg]
  exact (EReal.coe_strictMono.monotone.map_max (a := r) (b := -r)).symm

/-- The absolute value of positive infinity. -/
theorem abs_top : max (⊤ : EReal) (-⊤) = ⊤ := max_eq_left le_top

/-- The absolute value of negative infinity. -/
theorem abs_bot : max (⊥ : EReal) (-⊥) = ⊤ := by rw [EReal.neg_bot]; exact max_eq_right le_top

/-- Two quotients of one number by divisors that are near: the difference is small against the second quotient. -/
theorem real_close (n s e k : ℝ) (hs : 1 ≤ s) (he : 0 < e) (hk : 0 < k) :
    |n / (s + e * k) - n / (s + e)| ≤ e * (1 + k) * |n / (s + e)| := by
  have hp : 0 < s + e := by linarith
  have hq : 1 ≤ s + e * k := by nlinarith [mul_pos he hk]
  have hq0 : 0 < s + e * k := by linarith
  have h : n / (s + e * k) - n / (s + e) = (e * (1 - k)) / (s + e * k) * (n / (s + e)) := by
    field_simp; ring
  rw [h, abs_mul]
  refine mul_le_mul_of_nonneg_right ?_ (abs_nonneg _)
  rw [abs_div, abs_of_pos hq0, div_le_iff₀ hq0, abs_mul, abs_of_pos he]
  have h1 : |1 - k| ≤ 1 + k := abs_le.2 ⟨by linarith, by linarith⟩
  have h2 : 0 ≤ e * (1 + k) := mul_nonneg he.le (by linarith)
  nlinarith [mul_le_mul_of_nonneg_left h1 he.le, mul_le_mul_of_nonneg_left hq h2]

/-- The same where the number may be infinite. -/
theorem close (N : EReal) (s e k : ℝ) (hs : 1 ≤ s) (he : 0 < e) (hk : 0 < k) :
    max (N * ((1 / (s + e * k) : ℝ) : EReal) - N * ((1 / (s + e) : ℝ) : EReal))
        (-(N * ((1 / (s + e * k) : ℝ) : EReal) - N * ((1 / (s + e) : ℝ) : EReal)))
      ≤ ((e * (1 + k) : ℝ) : EReal) * max (N * ((1 / (s + e) : ℝ) : EReal)) (-(N * ((1 / (s + e) : ℝ) : EReal))) := by
  have hp : 0 < 1 / (s + e) := one_div_pos.2 (by linarith)
  have hq : 0 < 1 / (s + e * k) := one_div_pos.2 (by nlinarith [mul_pos he hk])
  have hc : 0 < e * (1 + k) := mul_pos he (by linarith)
  induction N with
  | bot => rw [EReal.bot_mul_coe_of_pos hp, EReal.bot_mul_coe_of_pos hq, abs_bot, EReal.coe_mul_top_of_pos hc]; exact le_top
  | top => rw [EReal.top_mul_coe_of_pos hp, EReal.top_mul_coe_of_pos hq, abs_top, EReal.coe_mul_top_of_pos hc]; exact le_top
  | coe n =>
    rw [← EReal.coe_mul, ← EReal.coe_mul, ← EReal.coe_sub, abs_coe, abs_coe, ← EReal.coe_mul, mul_one_div, mul_one_div]
    exact EReal.coe_le_coe_iff.2 (real_close n s e k hs he hk)

section Real

variable (a : Fin 32768 → ℝ) (g : Vec Ideal ⟨1, ![32768]⟩ .i32) (b : Fin 16)

/-- The rows of segment `b`, each times the exponential of its score less `m`, summed. -/
def rowSum (m : ℝ) (x : Vec Ideal ⟨2, ![32768, 512]⟩ .f32) (d : Fin 512) : EReal :=
  ∑ t : Fin 32768, if isIn g b t then x (ix2 t d) * ((Real.exp (a t - m) : ℝ) : EReal) else 0

/-- A shifted softmax's value is the sum of the rows over the real denominator. -/
theorem shiftedPooled_row (m e : ℝ) (he : 0 < e) (hm : top (fun t => (a t : EReal)) g b = (m : EReal))
    (x : Vec Ideal ⟨2, ![32768, 512]⟩ .f32) (d : Fin 512) :
    shiftedPooled (e : EReal) x g (fun t => (a t : EReal)) b d
      = rowSum a g b m x d * ((1 / (expSum a g b m + e) : ℝ) : EReal) := by
  have hpos : 0 < expSum a g b m + e := add_pos_of_nonneg_of_pos (expSum_nonneg a g b m) he
  rw [shiftedPooled_eq a g b m e he hm]
  unfold rowSum
  rw [sum_mul_coe _ _ _ (one_div_pos.2 hpos).le]
  refine Finset.sum_congr rfl fun t _ => ?_
  split
  · rw [mul_assoc, ← EReal.coe_mul, mul_one_div]
  · rw [zero_mul]

/-- The sum of the exponentials of the scores less the largest score is at least one. -/
theorem expSum_one (t : Fin 32768) (h : isIn g b t) : 1 ≤ expSum a g b (a t) := by
  have h1 : (if isIn g b t then Real.exp (a t - a t) else 0) ≤ expSum a g b (a t) :=
    Finset.single_le_sum (f := fun t' => if isIn g b t' then Real.exp (a t' - a t) else 0) (fun t' _ => by
      split
      · exact (Real.exp_pos _).le
      · exact le_rfl) (Finset.mem_univ t)
  rwa [if_pos h, sub_self, Real.exp_zero] at h1

/-- The largest score of a segment without rows is the least extended real. -/
theorem top_empty (h : ∀ t, ¬ isIn g b t) (a : Fin 32768 → EReal) : top a g b = ⊥ := by
  unfold top
  exact le_bot_iff.1 (Finset.sup_le fun t _ => by rw [if_neg (h t)])

/-- A segment without rows pools to zero. -/
theorem shiftedPooled_empty (h : ∀ t, ¬ isIn g b t) (a : Fin 32768 → EReal) (e : EReal)
    (x : Vec Ideal ⟨2, ![32768, 512]⟩ .f32) (d : Fin 512) : shiftedPooled e x g a b d = 0 := by
  unfold shiftedPooled
  exact Finset.sum_eq_zero fun t _ => if_neg (h t)

/-- The kernel's value and that of a softmax with the constant unscaled, each times its own denominator, are equal. -/
theorem products_agree (x : Vec Ideal ⟨2, ![32768, 512]⟩ .f32) (d : Fin 512) :
    pooled x g (fun t => (a t : EReal)) b d
        * (shiftedSum (fun t => (a t : EReal)) g b + eps * Ideal.exp (-top (fun t => (a t : EReal)) g b))
      = shiftedPooled eps x g (fun t => (a t : EReal)) b d * (shiftedSum (fun t => (a t : EReal)) g b + eps) := by
  rw [pooled_eq_shifted]
  by_cases h : ∃ t, isIn g b t
  · obtain ⟨t₀, h₀⟩ := h
    obtain ⟨t, ht, -, hm⟩ := top_real a g b t₀ h₀
    have hs := expSum_one a g b t ht
    have hk := mul_pos epsReal_pos (Real.exp_pos (-a t))
    rw [hm, eps_eq, ← EReal.coe_neg, Ideal.exp_coe, ← EReal.coe_mul, shiftedPooled_row a g b (a t) _ hk hm,
      shiftedPooled_row a g b (a t) _ epsReal_pos hm, shiftedSum_eq a g b (a t) hm, ← EReal.coe_add, ← EReal.coe_add,
      mul_assoc, mul_assoc, ← EReal.coe_mul, ← EReal.coe_mul, one_div_mul_cancel (by linarith), one_div_mul_cancel (by linarith [epsReal_pos])]
  · have hn : ∀ t, ¬ isIn g b t := fun t ht => h ⟨t, ht⟩
    rw [shiftedPooled_empty g b hn, shiftedPooled_empty g b hn, zero_mul, zero_mul]

/-- The kernel's value is near that of a softmax with the constant unscaled. -/
theorem pooled_close (x : Vec Ideal ⟨2, ![32768, 512]⟩ .f32) (d : Fin 512) :
    max (pooled x g (fun t => (a t : EReal)) b d - shiftedPooled eps x g (fun t => (a t : EReal)) b d)
        (-(pooled x g (fun t => (a t : EReal)) b d - shiftedPooled eps x g (fun t => (a t : EReal)) b d))
      ≤ eps * (1 + Ideal.exp (-top (fun t => (a t : EReal)) g b))
        * max (shiftedPooled eps x g (fun t => (a t : EReal)) b d) (-shiftedPooled eps x g (fun t => (a t : EReal)) b d) := by
  rw [pooled_eq_shifted]
  by_cases h : ∃ t, isIn g b t
  · obtain ⟨t₀, h₀⟩ := h
    obtain ⟨t, ht, -, hm⟩ := top_real a g b t₀ h₀
    have hk := mul_pos epsReal_pos (Real.exp_pos (-a t))
    rw [hm, eps_eq, ← EReal.coe_neg, Ideal.exp_coe, ← EReal.coe_mul, shiftedPooled_row a g b (a t) _ hk hm,
      shiftedPooled_row a g b (a t) _ epsReal_pos hm, ← EReal.coe_one, ← EReal.coe_add, ← EReal.coe_mul]
    exact close _ _ _ _ (expSum_one a g b t ht) epsReal_pos (Real.exp_pos _)
  · have hn : ∀ t, ¬ isIn g b t := fun t ht => h ⟨t, ht⟩
    rw [shiftedPooled_empty g b hn, shiftedPooled_empty g b hn, sub_zero, neg_zero, max_self, mul_zero]

/-- The two values differ at a segment whose largest score isn't zero, where its rows' weighted sum is a real number other
    than zero. -/
theorem pooled_differs (x : Vec Ideal ⟨2, ![32768, 512]⟩ .f32) (d : Fin 512) (t : Fin 32768) (ht : isIn g b t)
    (hm : top (fun t => (a t : EReal)) g b = (a t : EReal)) (h0 : a t ≠ 0) (n : ℝ) (hn : n ≠ 0)
    (hx : rowSum a g b (a t) x d = (n : EReal)) :
    shiftedPooled eps x g (fun t => (a t : EReal)) b d ≠ pooled x g (fun t => (a t : EReal)) b d := by
  have hs := expSum_one a g b t ht
  have hk := mul_pos epsReal_pos (Real.exp_pos (-a t))
  have he := epsReal_pos
  rw [pooled_eq_shifted, hm, eps_eq, ← EReal.coe_neg, Ideal.exp_coe, ← EReal.coe_mul, shiftedPooled_row a g b (a t) _ hk hm,
    shiftedPooled_row a g b (a t) _ epsReal_pos hm, hx, ← EReal.coe_mul, ← EReal.coe_mul]
  intro h
  have h1 := mul_left_cancel₀ hn (EReal.coe_injective h)
  have h2 : expSum a g b (a t) + epsReal = expSum a g b (a t) + epsReal * Real.exp (-a t) := by
    rw [one_div, one_div] at h1
    exact inv_injective h1
  have h3 : epsReal * Real.exp (-a t) = epsReal * 1 := by linarith
  have h4 := mul_left_cancel₀ he.ne' h3
  exact h0 (by simpa using h4)

end Real

end Cert.Segment

end
-- ==== Proof.Written.lean ====
/- The postcondition: it holds the kernel's array against a softmax that adds the small constant unscaled, as the problem
   is written. Its steps as functions of plain arrays, read at an element; and why the two arrays are not simply equal. -/
module

public import proofs.«01_k».proof.Proof.Equation
public import proofs.«01_k».proof.Proof.Closeness
public import proofs.«01_k».proof.Proof.Gen.Post_near_reference

@[expose] public section

set_option maxRecDepth 16384

noncomputable section

namespace Cert.Segment

open Idealize.ShloMosaic
open Cert.Post_near_reference Cert.Post_near_reference.Gen
open Cert.ReferenceIdeal.Segment

/-- The weight of each row, the small constant added unscaled. -/
def writtenWeight (g : IVec S32768 32) (a : FVec Ideal S32768 .f32) : FVec Ideal S32768 .f32 :=
  Host.divf (refExp g a) (addf (Host.gather gather_S16_S32768x1_S32768_n_0_n_n_0_1_1 (refSum g a) (refIdx g))
    (broadcastInDim S32768 ![] bcast_S_S32768 (constant S_ .f32 0x322BCC77#32)))

/-- The array that the problem defines, from the rows, the segment numbers and the scores. -/
def written (x : FVec Ideal S32768x512 .f32) (g : IVec S32768 32) (a : FVec Ideal S32768 .f32) : FVec Ideal S16x512 .f32 :=
  refOut x g (writtenWeight g a)

/-- A number for each segment, repeated along the columns. -/
def columns (y : FVec Ideal S16 .f32) : FVec Ideal S16x512 .f32 :=
  broadcastInDim S16x512 ![0, 1] bcast_S16x1_S16x512_0_1 (broadcastInDim S16x1 ![0] bcast_S16_S16x1_0 y)

/-- The small constant for each segment. -/
def plainEps : FVec Ideal S16 .f32 := broadcastInDim S16 ![] bcast_S_S16 (constant S_ .f32 0x322BCC77#32)

/-- Where an array and the problem's, each times its own denominator, are equal. -/
def exactBits (g : IVec S32768 32) (a : FVec Ideal S32768 .f32) (r out : FVec Ideal S16x512 .f32) : IVec S16x512 1 :=
  cmpf .oeq (mulf out (columns (addf (refSum g a) (refEps g a)))) (mulf r (columns (addf (refSum g a) plainEps)))

/-- Where an array is near the problem's. -/
def closeBits (g : IVec S32768 32) (a : FVec Ideal S32768 .f32) (r out : FVec Ideal S16x512 .f32) : IVec S16x512 1 :=
  cmpf .ole (Host.absf (subf out r))
    (mulf (columns (mulf plainEps (addf (broadcastInDim S16 ![] bcast_S_S16 (constant S_ .f32 0x3F800000#32)) (Host.exp (Host.negf (refMax g a))))))
      (Host.absf r))

set_option maxHeartbeats 2000000 in
/-- The postcondition's function is the conjunction of the two over all elements. -/
theorem post_eq (x : FVec Ideal S32768x512 .f32) (g : IVec S32768 32) (s : IVec S16 32) (w1 : FVec Ideal S512x512 .f32)
    (b1 : FVec Ideal S512 .f32) (w2 : FVec Ideal S1x512 .f32) (b2 : FVec Ideal S1 .f32) (out : FVec Ideal S16x512 .f32) :
    fn (F := Ideal) x g s w1 b1 w2 b2 out
      = Host.reduce IntOp.andi
          (andi (exactBits g (refScore x w1 b1 w2 b2) (written x g (refScore x w1 b1 w2 b2)) out)
            (closeBits g (refScore x w1 b1 w2 b2) (written x g (refScore x w1 b1 w2 b2)) out))
          (constantI S_ 1 1#1) reducesTo_S16x512_S_d0_1 h_S_ := rfl

/-- A row's weight, the small constant added unscaled. -/
theorem writtenWeight_apply (g : IVec S32768 32) (a : FVec Ideal S32768 .f32) (t : Fin 32768) (b : Fin 16)
    (h : g (ix1 t) = BitVec.ofNat 32 b.val) :
    writtenWeight g a (ix1 t) = Ideal.div (Ideal.exp (a (ix1 t) - top (fun t => a (ix1 t)) g b))
      (shiftedSum (fun t => a (ix1 t)) g b + eps) := by
  pointwise [writtenWeight]
  rw [exp_apply g a t b h]
  erw [read_apply _ g t b h]
  rw [sum_apply]

/-- The problem's array, read at a segment and a column. -/
theorem written_apply (x : FVec Ideal S32768x512 .f32) (g : IVec S32768 32) (a : FVec Ideal S32768 .f32) (b : Fin 16) (d : Fin 512) :
    written x g a (ix2 b d) = shiftedPooled eps x g (fun t => a (ix1 t)) b d := by
  unfold written
  rw [out_apply]
  exact Finset.sum_congr rfl fun t _ => ite_congr rfl (fun h => congrArg (x (ix2 t d) * ·) (writtenWeight_apply g a t b h)) fun _ => rfl

/-- A comparison for equality of equal extended reals is one. -/
theorem oeq_one (u v : EReal) (h : u = v) : FloatOps.cmpf (F := Ideal) (φ := .f32) .oeq u v = 1#1 := by
  rw [Ideal.cmpf_def]; simp [Ideal.cmp, h]

/-- A comparison for order of ordered extended reals is one. -/
theorem ole_one (u v : EReal) (h : u ≤ v) : FloatOps.cmpf (F := Ideal) (φ := .f32) .ole u v = 1#1 := by
  rw [Ideal.cmpf_def]; simp [Ideal.cmp, h]

/-- The first comparison, read at an element. -/
theorem exactBits_apply (g : IVec S32768 32) (a : FVec Ideal S32768 .f32) (r out : FVec Ideal S16x512 .f32) (b : Fin 16) (d : Fin 512) :
    exactBits g a r out (ix2 b d) = FloatOps.cmpf (F := Ideal) (φ := .f32) .oeq
      (out (ix2 b d) * (shiftedSum (fun t => a (ix1 t)) g b + eps * Ideal.exp (-top (fun t => a (ix1 t)) g b)))
      (r (ix2 b d) * (shiftedSum (fun t => a (ix1 t)) g b + eps)) := by
  rw [← eps_apply, ← sum_apply]
  pointwise [exactBits, columns, plainEps]

/-- The second comparison, read at an element. -/
theorem closeBits_apply (g : IVec S32768 32) (a : FVec Ideal S32768 .f32) (r out : FVec Ideal S16x512 .f32) (b : Fin 16) (d : Fin 512) :
    closeBits g a r out (ix2 b d) = FloatOps.cmpf (F := Ideal) (φ := .f32) .ole
      (max (out (ix2 b d) - r (ix2 b d)) (-(out (ix2 b d) - r (ix2 b d))))
      (eps * (1 + Ideal.exp (-top (fun t => a (ix1 t)) g b)) * max (r (ix2 b d)) (-r (ix2 b d))) := by
  rw [← max_apply]
  pointwise [closeBits, columns, plainEps]
  rfl

/-- The postcondition holds of an array whose elements are the kernel's values, where the precondition holds. -/
theorem post_holds (x : FVec Ideal S32768x512 .f32) (g : IVec S32768 32) (s : IVec S16 32) (w1 : FVec Ideal S512x512 .f32)
    (b1 : FVec Ideal S512 .f32) (w2 : FVec Ideal S1x512 .f32) (b2 : FVec Ideal S1 .f32) (out : FVec Ideal S16x512 .f32)
    (h : Drawn b1 w2 b2) (ho : ∀ b d, out (ix2 b d) = pooled x g (score x w1 w2) b d) :
    fn (F := Ideal) x g s w1 b1 w2 b2 out = fun _ => 1#1 := by
  obtain ⟨a, hr, hk⟩ := scores_agree x w1 b1 w2 b2 h
  rw [post_eq]
  funext j
  refine Host.reduce_andi_one _ _ _ _ j rfl fun i => ?_
  idx_vars i
  refine IntOp.andi_eq_one.2 ⟨?_, ?_⟩
  · refine (exactBits_apply _ _ _ _ _ _).trans (oeq_one _ _ ?_)
    rw [written_apply, ho, hr, hk]
    exact products_agree a g _ x _
  · refine (closeBits_apply _ _ _ _ _ _).trans (ole_one _ _ ?_)
    rw [written_apply, ho, hr, hk]
    exact pooled_close a g _ x _

/-- A row's score where every row and every weight is one. -/
theorem score_ones (t : Fin 32768) :
    score (fun _ => (1 : EReal)) (fun _ => (1 : EReal)) (fun _ => (1 : EReal)) t = ((512 * Real.tanh 512 : ℝ) : EReal) := by
  have e : ∑ j : Fin 512, (1 : EReal) * 1 = ((512 : ℝ) : EReal) := by
    have := coe_sum (Finset.univ : Finset (Fin 512)) fun _ => (1 : ℝ)
    simpa using this.symm
  show ∑ k : Fin 512, Ideal.tanh (∑ j : Fin 512, (1 : EReal) * 1) * 1 = _
  rw [e, Ideal.tanh_coe]
  have := coe_sum (Finset.univ : Finset (Fin 512)) fun _ => Real.tanh 512
  simpa using this.symm

/-- The array that the problem defines is not the kernel's on every argument that satisfies the precondition: ones in every
    argument but the offsets, all rows in the first segment. -/
theorem written_differs : ∃ (x : FVec Ideal S32768x512 .f32) (g : IVec S32768 32) (w1 : FVec Ideal S512x512 .f32) (b1 : FVec Ideal S512 .f32)
    (w2 : FVec Ideal S1x512 .f32) (b2 : FVec Ideal S1 .f32) (b : Fin 16) (d : Fin 512), Drawn b1 w2 b2
      ∧ written x g (refScore x w1 b1 w2 b2) (ix2 b d) ≠ pooled x g (score x w1 w2) b d := by
  refine ⟨fun _ => (1 : EReal), fun _ => 0#32, fun _ => (1 : EReal), fun _ => (0 : EReal), fun _ => (1 : EReal), fun _ => (0 : EReal), 0, 0, ?_⟩
  have hd : Drawn (fun _ => (0 : EReal)) (fun _ => (1 : EReal)) (fun _ => (0 : EReal)) := ⟨fun _ => rfl, rfl, fun _ => ⟨1, rfl⟩⟩
  refine ⟨hd, ?_⟩
  obtain ⟨a, hr, hk⟩ := scores_agree (fun _ => (1 : EReal)) (fun _ => (1 : EReal)) _ _ _ hd
  rw [written_apply, hr, hk]
  have hin : ∀ t : Fin 32768, isIn (fun _ => 0#32) 0 t := fun _ => rfl
  obtain ⟨t, ht, -, hm⟩ := top_real a (fun _ => 0#32) 0 0 (hin 0)
  have hpos : 0 < a t := by
    have e := (congrFun hk t).symm.trans (score_ones t)
    rw [EReal.coe_injective e, Real.tanh_eq_sinh_div_cosh]
    exact mul_pos (by norm_num) (div_pos (Real.sinh_pos_iff.2 (by norm_num)) (Real.cosh_pos _))
  refine pooled_differs a _ 0 _ 0 t ht hm hpos.ne' (expSum a (fun _ => 0#32) 0 (a t)) ?_ ?_
  · exact (lt_of_lt_of_le one_pos (expSum_one a _ 0 t ht)).ne'
  · unfold rowSum expSum
    rw [coe_sum]
    refine Finset.sum_congr rfl fun t' _ => ?_
    rw [if_pos (hin t'), if_pos (hin t'), one_mul]

end Cert.Segment

end
-- ==== Proof.lean ====
/- The proof of the certificate's claim. The frames come from the generated runs. The value claim puts the kernel's array
   (Proof/KernelValue.lean) beside the reference's (Proof/Reference.lean), equal by Proof/Equation.lean. The postcondition is
   Proof/Written.lean's. -/
module

public import proofs.«01_k».proof.Defs
public import proofs.«01_k».proof.Proof.Gen.Kernel.Frame
public import proofs.«01_k».proof.Proof.Gen.KernelIdeal.Value
public import proofs.«01_k».proof.Proof.Gen.Pre_as_drawn
public import proofs.«01_k».proof.Proof.Gen.Post_near_reference
public import proofs.«01_k».proof.Proof.Gen.ReferenceIdeal.Run
public import proofs.«01_k».proof.Proof.Equation
public import proofs.«01_k».proof.Proof.Written
public import Idealize.ShloMosaic.Adequacy
public import Idealize.ShloMosaic.Init
public import Idealize.ShloMosaic.Lib.Quiescent

@[expose] public section

noncomputable section

namespace Cert.Proof

open Idealize.ShloMosaic Idealize.SL.Sem

/-- The reference runs, leaves its arguments unchanged and every counter at zero. -/
theorem reference_quiescent : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The same where the precondition holds. -/
theorem reference_quiescent_drawn : quiescent_ReferenceIdeal_pre_as_drawn := fun m ρ _ => reference_quiescent m ρ trivial

/-- The kernel and the reference compute the same array from the same arguments, where the precondition holds. -/
theorem same_array : algebraic_KernelIdeal_ReferenceIdeal_pre_as_drawn := by
  intro m ρ m' ρ' hpre hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  obtain ⟨h0, h1, -, h3, h4, h5, h6⟩ := hagree c
  rw [(h c).1, Cert.ReferenceIdeal.Segment.result_eq, h0, h1, h3, h4, h5, h6]
  exact Cert.Segment.arrays_agree m c _ _ (Cert.Segment.drawn _ _ _ _ _ _ _ (hpre c))

/-- The kernel's array satisfies the postcondition, where the precondition holds. -/
theorem near_written : holds_KernelIdeal_near_reference_pre_as_drawn := fun m ρ hpre =>
  (θ_run Cert.KernelIdeal.defs _ _).mono (fun r h c => by
    obtain ⟨hv, h0, h1, h2, h3, h4, h5, h6⟩ := h c
    refine ⟨h0, h1, h2, h3, h4, h5, h6, ?_⟩
    rw [hv]
    exact Cert.Segment.post_holds _ _ _ _ _ _ _ _ (Cert.Segment.drawn _ _ _ _ _ _ _ (hpre c))
      fun b d => Cert.KernelIdeal.Segment.result_apply m c b d) (Cert.KernelIdeal.Value.run (F := Ideal) m ρ)

/-- The certificate's claim. -/
theorem claim : Cert.Claim :=
  ⟨Cert.Kernel.Gen.facts, Cert.KernelIdeal.Gen.facts, Cert.ReferenceIdeal.Gen.facts, Cert.Pre_as_drawn.Gen.facts,
    Cert.Post_near_reference.Gen.facts,
    fun m ρ _ => Cert.Kernel.Gen.frame m ρ,
    fun m ρ _ => Cert.KernelIdeal.Gen.frame m ρ,
    fun m ρ _ => Cert.KernelIdeal.Gen.frame m ρ,
    reference_quiescent,
    reference_quiescent_drawn,
    (trivial : preserves_Kernel_KernelIdeal),
    same_array,
    near_written⟩

end Cert.Proof

end
